-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pack.Statement Cert.KernelIdeal.S64x256
  ∧ IdealRules.bf16_pack.Statement Cert.KernelIdeal.S128x256
  ∧ IdealRules.bf16_pack.Statement Cert.KernelIdeal.S256x256
  ∧ IdealRules.named_const.Statement Cert.KernelIdeal.κ "loss_scale" .f32 0x32AAAAAB#32 ((1 / 50331648 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v112) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x1408 : Shape := ⟨3, ![8, 2048, 1408]⟩
abbrev S256x1408 : Shape := ⟨2, ![256, 1408]⟩
abbrev S256 : Shape := ⟨1, ![256]⟩
abbrev S1408x256 : Shape := ⟨2, ![1408, 256]⟩
abbrev S1408 : Shape := ⟨1, ![1408]⟩
abbrev S64x256 : Shape := ⟨2, ![64, 256]⟩
abbrev S128x256 : Shape := ⟨2, ![128, 256]⟩
abbrev S256x256 : Shape := ⟨2, ![256, 256]⟩
abbrev S_ : Shape := ⟨0, ![]⟩

class Facts : Prop where
  bcast_S_S8x2048x1408 : S_.BroadcastsInDim S8x2048x1408 (![] : Fin 0 → Fin S8x2048x1408.rank)
  reducesTo_S8x2048x1408_S_d0_1_2 : S8x2048x1408.ReducesTo [0, 1, 2] S_
  h_S_ : 0 < S_.numel
  bcast_S_S256x1408 : S_.BroadcastsInDim S256x1408 (![] : Fin 0 → Fin S256x1408.rank)
  reducesTo_S256x1408_S_d0_1 : S256x1408.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg6 : FVec F S128x256 .f32) (main_arg7 : FVec F S256x256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  main_v28

def fn {F : FTy → Type} [FloatOps F] (main_arg0 : FVec F S8x2048x1408 .f32) (main_arg1 : FVec F S256x1408 .f32) (main_arg2 : FVec F S256 .f32) (main_arg3 : FVec F S1408x256 .f32) (main_arg4 : FVec F S1408 .f32) (main_arg5 : FVec F S64x256 .f32) (main_arg6 : FVec F S128x256 .f32) (main_arg7 : FVec F S256x256 .f32) : IVec S_ 1 :=
  let main_v0 : FVec F S8x2048x1408 .f32 := Host.absf main_arg0
  let main_cst : FVec F S_ .f32 := constant S_ .f32 0x7F800000#32
  let main_v1 : FVec F S8x2048x1408 .f32 := broadcastInDim S8x2048x1408 ![] bcast_S_S8x2048x1408 main_cst
  let main_v2 : IVec S8x2048x1408 1 := cmpf .olt main_v0 main_v1
  let main_c : IVec S_ 1 := constantI S_ 1 1#1
  let main_v3 : IVec S_ 1 := (fun x v => Host.reduce IntOp.andi x v reducesTo_S8x2048x1408_S_d0_1_2 h_S_) main_v2 main_c
  let main_v4 : FVec F S256x1408 .f32 := Host.absf main_arg1
  let main_cst_0 : FVec F S_ .f32 := constant S_ .f32 0x7F800000#32
  let main_v5 : FVec F S256x1408 .f32 := broadcastInDim S256x1408 ![] bcast_S_S256x1408 main_cst_0
  let main_v6 : IVec S256x1408 1 := cmpf .olt main_v4 main_v5
  let main_c_1 : IVec S_ 1 := constantI S_ 1 1#1
  let main_v7 : IVec S_ 1 := (fun x v => Host.reduce IntOp.andi x v reducesTo_S256x1408_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg5
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg6 main_arg7 main_v13 main_v16
-- ==== Kernel.lean ====
abbrev S8x2048x1408 : Shape := ⟨3, ![8, 2048, 1408]⟩
abbrev S256x1408 : Shape := ⟨2, ![256, 1408]⟩
abbrev S256 : Shape := ⟨1, ![256]⟩
abbrev S1408x256 : Shape := ⟨2, ![1408, 256]⟩
abbrev S1408 : Shape := ⟨1, ![1408]⟩
abbrev S64x256 : Shape := ⟨2, ![64, 256]⟩
abbrev S128x256 : Shape := ⟨2, ![128, 256]⟩
abbrev S256x256 : Shape := ⟨2, ![256, 256]⟩
abbrev S16384x1408 : Shape := ⟨2, ![16384, 1408]⟩
abbrev S1x256 : Shape := ⟨2, ![1, 256]⟩
abbrev S1x1408 : Shape := ⟨2, ![1, 1408]⟩
abbrev S16x1x1024 : Shape := ⟨3, ![16, 1, 1024]⟩
abbrev S1x1 : Shape := ⟨2, ![1, 1]⟩
abbrev S1024x1408 : Shape := ⟨2, ![1024, 1408]⟩
abbrev S1x1x1024 : Shape := ⟨3, ![1, 1, 1024]⟩
abbrev S1024x256 : Shape := ⟨2, ![1024, 256]⟩
abbrev S1024x64 : Shape := ⟨2, ![1024, 64]⟩
abbrev S64 : Shape := ⟨1, ![64]⟩
abbrev S1024 : Shape := ⟨1, ![1024]⟩
abbrev S1024x1 : Shape := ⟨2, ![1024, 1]⟩
abbrev S1x64 : Shape := ⟨2, ![1, 64]⟩
abbrev S192x256 : Shape := ⟨2, ![192, 256]⟩
abbrev S1024x192 : Shape := ⟨2, ![1024, 192]⟩
abbrev S1x1024x256 : Shape := ⟨3, ![1, 1024, 256]⟩
abbrev S1 : Shape := ⟨1, ![1]⟩
abbrev S1x1x1 : Shape := ⟨3, ![1, 1, 1]⟩
abbrev S1024x128 : Shape := ⟨2, ![1024, 128]⟩
abbrev S128 : Shape := ⟨1, ![128]⟩
abbrev S1x128 : Shape := ⟨2, ![1, 128]⟩
abbrev S384x256 : Shape := ⟨2, ![384, 256]⟩
abbrev S1024x384 : Shape := ⟨2, ![1024, 384]⟩
abbrev S768x256 : Shape := ⟨2, ![768, 256]⟩
abbrev S1024x768 : Shape := ⟨2, ![1024, 768]⟩
abbrev S8x2048 : Shape := ⟨2, ![8, 2048]⟩
abbrev S_ : Shape := ⟨0, ![]⟩

abbrev nBuf : Space → Nat
  | .hbm => 21
  | .vmem => 18
  | .smem => 0
  | _ => 0

abbrev bufTy : (tb : Table) → Fin (tcTables nBuf tb) → BufTy
  | .hbm, ⟨0, _⟩ => ⟨S8x2048x1408, .f32⟩
  | .hbm, ⟨1, _⟩ => ⟨S256x1408, .f32⟩
  | .hbm, ⟨2, _⟩ => ⟨S256, .f32⟩
  | .hbm, ⟨3, _⟩ => ⟨S1408x256, .f32⟩
  | .hbm, ⟨4, _⟩ => ⟨S1408, .f32⟩
  | .hbm, ⟨5, _⟩ => ⟨S64x256, .f32⟩
  | .hbm, ⟨6, _⟩ => ⟨S128x256, .f32⟩
  | .hbm, ⟨7, _⟩ => ⟨S256x256, .f32⟩
  | .hbm, ⟨8, _⟩ => ⟨S16384x1408, .f32⟩
  | .hbm, ⟨9, _⟩ => ⟨S1x256, .f32⟩
  | .hbm, ⟨10, _⟩ => ⟨S1x1408, .f32⟩
  | .hbm, ⟨11, _⟩ => ⟨S16384x1408, .f32⟩
  | .hbm, ⟨12, _⟩ => ⟨S16x1x1024, .i32⟩
  | .hbm, ⟨13, _⟩ => ⟨S16x1x1024, .i32⟩
  | .hbm, ⟨14, _⟩ => ⟨S16x1x1024, .i32⟩
  | .hbm, ⟨15, _⟩ => ⟨S1x1, .f32⟩
  | .hbm, ⟨16, _⟩ => ⟨S8x2048x1408, .f32⟩
  | .hbm, ⟨17, _⟩ => ⟨S8x2048, .i32⟩
  | .hbm, ⟨18, _⟩ => ⟨S8x2048, .i32⟩
  | .hbm, ⟨19, _⟩ => ⟨S8x2048, .i32⟩
  | .hbm, ⟨20, _⟩ => ⟨S_, .f32⟩
  | .local _ .vmem, ⟨0, _⟩ => ⟨S1024x1408, .f32⟩
  | .local _ .vmem, ⟨1, _⟩ => ⟨S1024x1408, .f32⟩
  | .local _ .vmem, ⟨2, _⟩ => ⟨S256x1408, .f32⟩
  | .local _ .vmem, ⟨3, _⟩ => ⟨S1x256, .f32⟩
  | .local _ .vmem, ⟨4, _⟩ => ⟨S1408x256, .f32⟩
  | .local _ .vmem, ⟨5, _⟩ => ⟨S1x1408, .f32⟩
  | .local _ .vmem, ⟨6, _⟩ => ⟨S64x256, .f32⟩
  | .local _ .vmem, ⟨7, _⟩ => ⟨S128x256, .f32⟩
  | .local _ .vmem, ⟨8, _⟩ => ⟨S256x256, .f32⟩
  | .local _ .vmem, ⟨9, _⟩ => ⟨S1024x1408, .f32⟩
  | .local _ .vmem, ⟨10, _⟩ => ⟨S1024x1408, .f32⟩
  | .local _ .vmem, ⟨11, _⟩ => ⟨S1x1x1024, .i32⟩
  | .local _ .vmem, ⟨12, _⟩ => ⟨S1x1x1024, .i32⟩
  | .local _ .vmem, ⟨13, _⟩ => ⟨S1x1x1024, .i32⟩
  | .local _ .vmem, ⟨14, _⟩ => ⟨S1x1x1024, .i32⟩
  | .local _ .vmem, ⟨15, _⟩ => ⟨S1x1x1024, .i32⟩
  | .local _ .vmem, ⟨16, _⟩ => ⟨S1x1x1024, .i32⟩
  | .local _ .vmem, ⟨17, _⟩ => ⟨S1x1, .f32⟩
  | _, _ => ⟨S8x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1408x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "loss_scale" => some ((1 / 50331648 : ℝ) : EReal)
  | _ => none
-- ==== ReferenceIdeal.lean ====
abbrev S8x2048x1408 : Shape := ⟨3, ![8, 2048, 1408]⟩
abbrev S256x1408 : Shape := ⟨2, ![256, 1408]⟩
abbrev S256 : Shape := ⟨1, ![256]⟩
abbrev S1408x256 : Shape := ⟨2, ![1408, 256]⟩
abbrev S1408 : Shape := ⟨1, ![1408]⟩
abbrev S64x256 : Shape := ⟨2, ![64, 256]⟩
abbrev S128x256 : Shape := ⟨2, ![128, 256]⟩
abbrev S256x256 : Shape := ⟨2, ![256, 256]⟩
abbrev S8x2048x256 : Shape := ⟨3, ![8, 2048, 256]⟩
abbrev S1x1x256 : Shape := ⟨3, ![1, 1, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S256x64 : Shape := ⟨2, ![256, 64]⟩
abbrev S16384x64 : Shape := ⟨2, ![16384, 64]⟩
abbrev S64 : Shape := ⟨1, ![64]⟩
abbrev S1x64 : Shape := ⟨2, ![1, 64]⟩
abbrev S8x2048 : Shape := ⟨2, ![8, 2048]⟩
abbrev S256x128 : Shape := ⟨2, ![256, 128]⟩
abbrev S16384x128 : Shape := ⟨2, ![16384, 128]⟩
abbrev S128 : Shape := ⟨1, ![128]⟩
abbrev S1x128 : Shape := ⟨2, ![1, 128]⟩
abbrev S1x256 : Shape := ⟨2, ![1, 256]⟩
abbrev S1x1x1408 : Shape := ⟨3, ![1, 1, 1408]⟩

abbrev nBuf : Space → Nat
  | .hbm => 159
  | .vmem => 0
  | .smem => 0
  | _ => 0

abbrev hbmTy0_0 (i : Nat) : BufTy := match i % 128 with
  | 0 => ⟨S8x2048x1408, .f32⟩
  | 1 => ⟨S256x1408, .f32⟩
  | 2 => ⟨S256, .f32⟩
  | 3 => ⟨S1408x256, .f32⟩
  | 4 => ⟨S1408, .f32⟩
  | 5 => ⟨S64x256, .f32⟩
  | 6 => ⟨S128x256, .f32⟩
  | 7 => ⟨S256x256, .f32⟩
  | 8 => ⟨S1408x256, .f32⟩
  | 9 => ⟨S8x2048x256, .f32⟩
  | 10 => ⟨S1x1x256, .f32⟩
  | 11 => ⟨S8x2048x256, .f32⟩
  | 12 => ⟨S8x2048x256, .f32⟩
  | 13 => ⟨S16384x256, .f32⟩
  | 14 => ⟨S16384x256, .f32⟩
  | 15 => ⟨S_, .f32⟩
  | 16 => ⟨S16384, .f32⟩
  | 17 => ⟨S16384x1, .f32⟩
  | 18 => ⟨S_, .f32⟩
  | 19 => ⟨S16384x256, .f32⟩
  | 20 => ⟨S16384x256, .f32⟩
  | 21 => ⟨S256x64, .f32⟩
  | 22 => ⟨S16384x64, .f32⟩
  | 23 => ⟨S16384x64, .f32⟩
  | 24 => ⟨S16384x64, .f32⟩
  | 25 => ⟨S64x256, .f32⟩
  | 26 => ⟨S_, .f32⟩
  | 27 => ⟨S64, .f32⟩
  | 28 => ⟨S1x64, .f32⟩
  | 29 => ⟨S16384x64, .f32⟩
  | 30 => ⟨S16384x64, .f32⟩
  | 31 => ⟨S16384x64, .i32⟩
  | 32 => ⟨S_, .f32⟩
  | 33 => ⟨S_, .i32⟩
  | 34 => ⟨S16384, .f32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x256, .f32⟩
  | 45 => ⟨S16384x256, .f32⟩
  | 46 => ⟨S16384x256, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S16384x256, .f32⟩
  | 54 => ⟨S16384x256, .f32⟩
  | 55 => ⟨S8x2048, .i32⟩
  | 56 => ⟨S_, .f32⟩
  | 57 => ⟨S_, .f32⟩
  | 58 => ⟨S16384x256, .f32⟩
  | 59 => ⟨S16384x256, .f32⟩
  | 60 => ⟨S_, .f32⟩
  | 61 => ⟨S16384, .f32⟩
  | 62 => ⟨S16384x1, .f32⟩
  | 63 => ⟨S_, .f32⟩
  | 64 => ⟨S16384x256, .f32⟩
  | 65 => ⟨S16384x256, .f32⟩
  | 66 => ⟨S256x128, .f32⟩
  | 67 => ⟨S16384x128, .f32⟩
  | 68 => ⟨S16384x128, .f32⟩
  | 69 => ⟨S16384x128, .f32⟩
  | 70 => ⟨S128x256, .f32⟩
  | 71 => ⟨S_, .f32⟩
  | 72 => ⟨S128, .f32⟩
  | 73 => ⟨S1x128, .f32⟩
  | 74 => ⟨S16384x128, .f32⟩
  | 75 => ⟨S16384x128, .f32⟩
  | 76 => ⟨S16384x128, .i32⟩
  | 77 => ⟨S_, .f32⟩
  | 78 => ⟨S_, .i32⟩
  | 79 => ⟨S16384, .f32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S16384x256, .f32⟩
  | 90 => ⟨S16384x256, .f32⟩
  | 91 => ⟨S16384x256, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S16384x256, .f32⟩
  | 99 => ⟨S16384x256, .f32⟩
  | 100 => ⟨S8x2048, .i32⟩
  | 101 => ⟨S_, .f32⟩
  | 102 => ⟨S16384x256, .f32⟩
  | 103 => ⟨S16384x256, .f32⟩
  | 104 => ⟨S_, .f32⟩
  | 105 => ⟨S16384, .f32⟩
  | 106 => ⟨S16384x1, .f32⟩
  | 107 => ⟨S_, .f32⟩
  | 108 => ⟨S16384x256, .f32⟩
  | 109 => ⟨S16384x256, .f32⟩
  | 110 => ⟨S256x256, .f32⟩
  | 111 => ⟨S16384x256, .f32⟩
  | 112 => ⟨S16384x256, .f32⟩
  | 113 => ⟨S16384x256, .f32⟩
  | 114 => ⟨S256x256, .f32⟩
  | 115 => ⟨S_, .f32⟩
  | 116 => ⟨S256, .f32⟩
  | 117 => ⟨S1x256, .f32⟩
  | 118 => ⟨S16384x256, .f32⟩
  | 119 => ⟨S16384x256, .f32⟩
  | 120 => ⟨S16384x256, .i32⟩
  | 121 => ⟨S_, .f32⟩
  | 122 => ⟨S_, .i32⟩
  | 123 => ⟨S16384, .f32⟩
  | 124 => ⟨S16384, .i32⟩
  | 125 => ⟨S_, .i32⟩
  | 126 => ⟨S16384, .i32⟩
  | 127 => ⟨S16384, .i1⟩
  | _ => ⟨S8x2048x1408, .f32⟩

abbrev hbmTy0_1 (i : Nat) : BufTy := match i % 128 with
  | 0 => ⟨S_, .i32⟩
  | 1 => ⟨S16384, .i32⟩
  | 2 => ⟨S16384, .i32⟩
  | 3 => ⟨S16384, .i32⟩
  | 4 => ⟨S16384x1, .i32⟩
  | 5 => ⟨S16384x256, .f32⟩
  | 6 => ⟨S16384x256, .f32⟩
  | 7 => ⟨S16384x256, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S16384x256, .f32⟩
  | 15 => ⟨S16384x256, .f32⟩
  | 16 => ⟨S8x2048, .i32⟩
  | 17 => ⟨S_, .f32⟩
  | 18 => ⟨S16384x256, .f32⟩
  | 19 => ⟨S16384x256, .f32⟩
  | 20 => ⟨S16384x256, .f32⟩
  | 21 => ⟨S8x2048x256, .f32⟩
  | 22 => ⟨S256x1408, .f32⟩
  | 23 => ⟨S8x2048x1408, .f32⟩
  | 24 => ⟨S1x1x1408, .f32⟩
  | 25 => ⟨S8x2048x1408, .f32⟩
  | 26 => ⟨S8x2048x1408, .f32⟩
  | 27 => ⟨S8x2048x1408, .f32⟩
  | 28 => ⟨S8x2048x1408, .f32⟩
  | 29 => ⟨S_, .f32⟩
  | 30 => ⟨S_, .f32⟩
  | _ => ⟨S8x2048x1408, .f32⟩

abbrev hbmTy (i : Nat) : BufTy := match i / 128 with
  | 0 => hbmTy0_0 i
  | 1 => hbmTy0_1 i
  | _ => ⟨S8x2048x1408, .f32⟩

abbrev bufTy : (tb : Table) → Fin (tcTables nBuf tb) → BufTy
  | .hbm, ⟨i, _⟩ => hbmTy i
  | _, _ => ⟨S8x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_cst : Ref sig .tc := ⟨.hbm, 32, rfl⟩
abbrev main_call0_c : Ref sig .tc := ⟨.hbm, 33, rfl⟩
abbrev main_call0_v1_0 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_v0 : Ref sig .tc := ⟨.hbm, 76, rfl⟩
abbrev main_call1_cst : Ref sig .tc := ⟨.hbm, 77, rfl⟩
abbrev main_call1_c : Ref sig .tc := ⟨.hbm, 78, rfl⟩
abbrev main_call1_v1_0 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_cst_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_15 : Ref sig .tc := ⟨.hbm, 104, rfl⟩
abbrev main_v71 : Ref sig .tc := ⟨.hbm, 105, rfl⟩
abbrev main_v72 : Ref sig .tc := ⟨.hbm, 106, rfl⟩
abbrev main_cst_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_17 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call2_v0 : Ref sig .tc := ⟨.hbm, 120, rfl⟩
abbrev main_call2_cst : Ref sig .tc := ⟨.hbm, 121, rfl⟩
abbrev main_call2_c : Ref sig .tc := ⟨.hbm, 122, rfl⟩
abbrev main_call2_v1_0 : Ref sig .tc := ⟨.hbm, 123, rfl⟩
abbrev main_v84 : Ref sig .tc := ⟨.hbm, 124, rfl⟩
abbrev main_c_18 : Ref sig .tc := ⟨.hbm, 125, rfl⟩
abbrev main_v85 : Ref sig .tc := ⟨.hbm, 126, rfl⟩
abbrev main_v86 : Ref sig .tc := ⟨.hbm, 127, rfl⟩
abbrev main_c_19 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_20 : Ref sig .tc := ⟨.hbm, 136, rfl⟩
abbrev main_v94 : Ref sig .tc := ⟨.hbm, 137, rfl⟩
abbrev main_cst_21 : Ref sig .tc := ⟨.hbm, 138, rfl⟩
abbrev main_v95 : Ref sig .tc := ⟨.hbm, 139, rfl⟩
abbrev main_cst_22 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_23 : Ref sig .tc := ⟨.hbm, 157, rfl⟩
abbrev main_v112 : Ref sig .tc := ⟨.hbm, 158, rfl⟩

abbrev nD : Nat := 1
abbrev τ : Topo := Topo.v7x

variable {F : FTy → Type} [FloatOps F]
-- ==== Proof.KFrame.lean ====
/-
  The frame of the kernel as printed: whatever the values are, it runs to the end, leaves its arguments as they were and every
  counter at zero.  What it stores is not named here: each output buffer is handed back at some contents.
-/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging buffers: the inputs' are read and left as they were, the outputs' end at some contents. -/
theorem run_body (c : Dev nD) (i : grid0.Coords) (arg1 : Memref sig .tc .vmem S1024x1408 .f32) (harg1 : arg1.IsWhole) (arg2 : Memref sig .tc .vmem S256x1408 .f32) (harg2 : arg2.IsWhole) (arg3 : Memref sig .tc .vmem S1x256 .f32) (harg3 : arg3.IsWhole) (arg4 : Memref sig .tc .vmem S1408x256 .f32) (harg4 : arg4.IsWhole) (arg5 : Memref sig .tc .vmem S1x1408 .f32) (harg5 : arg5.IsWhole) (arg6 : Memref sig .tc .vmem S64x256 .f32) (harg6 : arg6.IsWhole) (arg7 : Memref sig .tc .vmem S128x256 .f32) (harg7 : arg7.IsWhole) (arg8 : Memref sig .tc .vmem S256x256 .f32) (harg8 : arg8.IsWhole) (arg9 : Memref sig .tc .vmem S1024x1408 .f32) (harg9 : arg9.IsWhole) (arg10 : Memref sig .tc .vmem S1x1x1024 .i32) (harg10 : arg10.IsWhole) (arg11 : Memref sig .tc .vmem S1x1x1024 .i32) (harg11 : arg11.IsWhole) (arg12 : Memref sig .tc .vmem S1x1x1024 .i32) (harg12 : arg12.IsWhole) (arg13 : Memref sig .tc .vmem S1x1 .f32) (harg13 : arg13.IsWhole)
    (x0 : Vec F S1024x1408 .f32) (x1 : Vec F S256x1408 .f32) (x2 : Vec F S1x256 .f32) (x3 : Vec F S1408x256 .f32) (x4 : Vec F S1x1408 .f32) (x5 : Vec F S64x256 .f32) (x6 : Vec F S128x256 .f32) (x7 : Vec F S256x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__vq_kernel i arg1 harg1 arg2 harg2 arg3 harg3 arg4 harg4 arg5 harg5 arg6 harg6 arg7 harg7 arg8 harg8 arg9 harg9 arg10 harg10 arg11 harg11 arg12 harg12 arg13 harg13) K := by
    intro E K
    simp only [cc0__vq_kernel_eq_skeleton]; unfold cc0__vq_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

/-- The buffers the host operations after the region write. -/
def T0 : Finset (Ref sig .tc) := {main_v4, main_v5, main_v6, main_v7, main_v8}

/-- They write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The output windows, whose contents the frame forgets. -/
def forgets : Fin 13 → Bool := fun w => w.val == 8 || w.val == 9 || w.val == 10 || w.val == 11 || w.val == 12

/-- The proof data: the arrays as the region finds them; after the body each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-- What the body leaves in an input window. -/
theorem after0_0 (c : Dev nD) (t : Fin cfg0.N) : (dats m 0 c).after 0 t = iblk m c 0 t := by dsimp only [dats]
/-- What the proof data says that window 1's buffer holds after a point. -/
theorem after0_1 (c : Dev nD) (t : Fin cfg0.N) : (dats m 0 c).after 1 t = iblk m c 1 t := by dsimp only [dats]
/-- What the proof data says that window 2's buffer holds after a point. -/
theorem after0_2 (c : Dev nD) (t : Fin cfg0.N) : (dats m 0 c).after 2 t = iblk m c 2 t := by dsimp only [dats]
/-- What the proof data says that window 3's buffer holds after a point. -/
theorem after0_3 (c : Dev nD) (t : Fin cfg0.N) : (dats m 0 c).after 3 t = iblk m c 3 t := by dsimp only [dats]
/-- What the proof data says that window 4's buffer holds after a point. -/
theorem after0_4 (c : Dev nD) (t : Fin cfg0.N) : (dats m 0 c).after 4 t = iblk m c 4 t := by dsimp only [dats]
/-- What the proof data says that window 5's buffer holds after a point. -/
theorem after0_5 (c : Dev nD) (t : Fin cfg0.N) : (dats m 0 c).after 5 t = iblk m c 5 t := by dsimp only [dats]
/-- What the proof data says that window 6's buffer holds after a point. -/
theorem after0_6 (c : Dev nD) (t : Fin cfg0.N) : (dats m 0 c).after 6 t = iblk m c 6 t := by dsimp only [dats]
/-- What the proof data says that window 7's buffer holds after a point. -/
theorem after0_7 (c : Dev nD) (t : Fin cfg0.N) : (dats m 0 c).after 7 t = iblk m c 7 t := by dsimp only [dats]

/-- An input's buffer holds its block when the body starts. -/
theorem before0_0 (c : Dev nD) (t : Fin cfg0.N) (d) : (dats m 0 c).before 0 t d = iblk m c 0 t :=
  before0_0_of m (dats m 0 c) (A_eq m c 0) (after0_0 m c) t d
/-- Before a point, window 1's buffer holds its block there. -/
theorem before0_1 (c : Dev nD) (t : Fin cfg0.N) (d) : (dats m 0 c).before 1 t d = iblk m c 1 t :=
  before0_1_of m (dats m 0 c) (A_eq m c 1) (after0_1 m c) t d
/-- Before a point, window 2's buffer holds its block there. -/
theorem before0_2 (c : Dev nD) (t : Fin cfg0.N) (d) : (dats m 0 c).before 2 t d = iblk m c 2 t :=
  before0_2_of m (dats m 0 c) (A_eq m c 2) (after0_2 m c) t d
/-- Before a point, window 3's buffer holds its block there. -/
theorem before0_3 (c : Dev nD) (t : Fin cfg0.N) (d) : (dats m 0 c).before 3 t d = iblk m c 3 t :=
  before0_3_of m (dats m 0 c) (A_eq m c 3) (after0_3 m c) t d
/-- Before a point, window 4's buffer holds its block there. -/
theorem before0_4 (c : Dev nD) (t : Fin cfg0.N) (d) : (dats m 0 c).before 4 t d = iblk m c 4 t :=
  before0_4_of m (dats m 0 c) (A_eq m c 4) (after0_4 m c) t d
/-- Before a point, window 5's buffer holds its block there. -/
theorem before0_5 (c : Dev nD) (t : Fin cfg0.N) (d) : (dats m 0 c).before 5 t d = iblk m c 5 t :=
  before0_5_of m (dats m 0 c) (A_eq m c 5) (after0_5 m c) t d
/-- Before a point, window 6's buffer holds its block there. -/
theorem before0_6 (c : Dev nD) (t : Fin cfg0.N) (d) : (dats m 0 c).before 6 t d = iblk m c 6 t :=
  before0_6_of m (dats m 0 c) (A_eq m c 6) (after0_6 m c) t d
/-- Before a point, window 7's buffer holds its block there. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d)
    ∗ (∃ d, owns (c : Thread nD τ) (win0_12.stage (cfg0.slots t 12)) fullShare d))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d)
    ∗ (∃ d, owns (c : Thread nD τ) (win0_12.stage (cfg0.slots t 12)) fullShare d))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((run_body c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every input array ends as it was, every other buffer the host operations do not write too, every counter at zero. -/
theorem run_quiescent : θ_run defs (onTc (τ := τ) (main (F := F))) (s₀ m ρ) (fun r => (Pipeline.RDat.FramePostR (cfgs 0) (fun c => (dats m 0 c).toRForget forgets) T0 (V m)) r ∧ r.2.sem = fun _ => 0) :=
  Pipeline.θ_run_frame_around_T_forget (Q' := _) cfgs (dats m) (0 : Fin 1) launch0 defs₀ Variants.none forgets T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- A run that ends with the input arrays as they were has the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by decide⟩)).trans (V_main_arg2 m c),
      (Pipeline.RDat.FramePostR.arr_in h c 3 rfl).trans ((hA c 3).trans (V_main_arg3 m c)),
      ((h c).2 main_arg4 (Finset.mem_sdiff.mpr ⟨Pipeline.mem_restRefs_of main_arg4 (by decide) (by decide), by decide⟩)).trans (V_main_arg4 m c),
      (Pipeline.RDat.FramePostR.arr_in h c 5 rfl).trans ((hA c 5).trans (V_main_arg5 m c)),
      (Pipeline.RDat.FramePostR.arr_in h c 6 rfl).trans ((hA c 6).trans (V_main_arg6 m c)),
      (Pipeline.RDat.FramePostR.arr_in h c 7 rfl).trans ((hA c 7).trans (V_main_arg7 m c))⟩) h

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets) (A_eq m) ((θ_run defs _ _).mono (fun _ h => h.1) (run_quiescent m ρ))

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_quiescent m ρ))

end Cert.Kernel.Body

end
-- ==== Proof.Body.lean ====
/-
  What one grid point of the kernel does: the values its stores leave, as terms over the printed payloads, and the
  body's triple over any staging buffers.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The values of one block

`x0` is the block of 1024 rows, `x1`, `x2` the projection in and its bias, `x3`, `x4` the projection out and its
bias, `x5`, `x6`, `x7` the three codebooks. -/

section Values

variable (x0 : Vec F S1024x1408 .f32) (x1 : Vec F S256x1408 .f32) (x2 : Vec F S1x256 .f32) (x3 : Vec F S1408x256 .f32)
  (x4 : Vec F S1x1408 .f32) (x5 : Vec F S64x256 .f32) (x6 : Vec F S128x256 .f32) (x7 : Vec F S256x256 .f32)

/-- The projected rows. -/
def zp : FVec F S1024x256 .f32 := k0_pay3 x0 x1 x2
/-- The one-hot rows of the first level. -/
def oh0 : FVec F S1024x64 .bf16 := k0_pay8 x0 x1 x2 x5
/-- The first level's sum of squared differences. -/
def part0 : F .f32 := k0_pay10 (zp x0 x1 x2) x5 (oh0 x0 x1 x2 x5)
/-- The sum of the code rows after the first level. -/
def sum0 : FVec F S1024x256 .f32 := k0_pay12 k0_pay4 x5 (oh0 x0 x1 x2 x5)
/-- The residual after the first level. -/
def res1 : FVec F S1024x256 .f32 := k0_pay13 (zp x0 x1 x2) x5 (oh0 x0 x1 x2 x5)
/-- Where the second level's distance is the row's least. -/
def msk1 : IVec S1024x128 1 := k0_pay15 (zp x0 x1 x2) x5 (oh0 x0 x1 x2 x5) x6
/-- The sums of squared differences of the first two levels. -/
def part1 : F .f32 := k0_pay19 (part0 x0 x1 x2 x5) (res1 x0 x1 x2 x5) x6 k0_pay14 (msk1 x0 x1 x2 x5 x6) k0_pay16
/-- The sum of the code rows after the second level. -/
def sum1 : FVec F S1024x256 .f32 := k0_pay21 (sum0 x0 x1 x2 x5) x6 k0_pay14 (msk1 x0 x1 x2 x5 x6) k0_pay16
/-- The residual after the second level. -/
def res2 : FVec F S1024x256 .f32 := k0_pay22 (res1 x0 x1 x2 x5) x6 k0_pay14 (msk1 x0 x1 x2 x5 x6) k0_pay16
/-- The squared lengths of the third codebook's rows. -/
def nrm2 : FVec F S256 .f32 := k0_pay23 x7
/-- What the third level's distances lack of those lengths. -/
def crs2 : FVec F S1024x256 .f32 := k0_pay24 (res1 x0 x1 x2 x5) x6 k0_pay14 (msk1 x0 x1 x2 x5 x6) k0_pay16 x7
/-- The sums of squared differences of the three levels. -/
def part2 : F .f32 := k0_pay28 (part1 x0 x1 x2 x5 x6) (res2 x0 x1 x2 x5 x6) x7 (nrm2 x7) (crs2 x0 x1 x2 x5 x6 x7)
/-- The sum of the three levels' code rows, rounded for the projection out. -/
def sum2 : FVec F S1024x256 .bf16 := k0_pay30 (sum1 x0 x1 x2 x5 x6) x7 (nrm2 x7) (crs2 x0 x1 x2 x5 x6 x7)

/-- The block of the output rows. -/
def o8 : Vec F S1024x1408 .f32 := k0_pay1 (sum2 x0 x1 x2 x5 x6 x7) (k0_pay31 x3) (constant S1024x1408 .f32 0x00000000#32) x4
/-- The block of the first level's indices. -/
def o9 : Vec F S1x1x1024 .i32 := k0_pay11 (k0_pay7 x0 x1 x2 x5)
/-- The block of the second level's indices. -/
def o10 : Vec F S1x1x1024 .i32 := k0_pay20 (F := F) k0_pay14 (msk1 x0 x1 x2 x5 x6) k0_pay16
/-- The block of the third level's indices. -/
def o11 : Vec F S1x1x1024 .i32 := k0_pay29 (nrm2 x7) (crs2 x0 x1 x2 x5 x6 x7)
/-- The loss after the block, at grid point `n`, `y` the loss before it. -/
def o12 (n : ℕ) (y : Vec F S1x1 .f32) : Vec F S1x1 .f32 := k0_pay2 (BitVec.ofNat 32 n) (part2 x0 x1 x2 x5 x6 x7) y

end Values

/-- The zero offset of a two-axis window. -/
theorem hz2 : (![0, 0] : Fin 2 → Nat) = fun _ => 0 := funext fun a => by fin_cases a <;> rfl
/-- The zero offset of a three-axis window. -/
theorem hz3 : (![0, 0, 0] : Fin 3 → Nat) = fun _ => 0 := funext fun a => by fin_cases a <;> rfl

/-- One store over a whole buffer leaves its payload, whatever was there. -/
theorem read_store {sig : RefSig} {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

-- the run's proof term is large: checking it walks past the default budget
set_option maxHeartbeats 4000000 in
/-- The body's triple: on whole staging buffers, the inputs' at `x0`…`x7`, the loss's at `y`, the other outputs' at
    anything, the body runs to its return, the inputs' as they were and the outputs' at `o8`…`o12`. -/
theorem run_body (c : Dev nD) (i : grid0.Coords) (arg1 : Memref sig .tc .vmem S1024x1408 .f32) (harg1 : arg1.IsWhole) (arg2 : Memref sig .tc .vmem S256x1408 .f32) (harg2 : arg2.IsWhole) (arg3 : Memref sig .tc .vmem S1x256 .f32) (harg3 : arg3.IsWhole) (arg4 : Memref sig .tc .vmem S1408x256 .f32) (harg4 : arg4.IsWhole) (arg5 : Memref sig .tc .vmem S1x1408 .f32) (harg5 : arg5.IsWhole) (arg6 : Memref sig .tc .vmem S64x256 .f32) (harg6 : arg6.IsWhole) (arg7 : Memref sig .tc .vmem S128x256 .f32) (harg7 : arg7.IsWhole) (arg8 : Memref sig .tc .vmem S256x256 .f32) (harg8 : arg8.IsWhole) (arg9 : Memref sig .tc .vmem S1024x1408 .f32) (harg9 : arg9.IsWhole) (arg10 : Memref sig .tc .vmem S1x1x1024 .i32) (harg10 : arg10.IsWhole) (arg11 : Memref sig .tc .vmem S1x1x1024 .i32) (harg11 : arg11.IsWhole) (arg12 : Memref sig .tc .vmem S1x1x1024 .i32) (harg12 : arg12.IsWhole) (arg13 : Memref sig .tc .vmem S1x1 .f32) (harg13 : arg13.IsWhole)
    (x0 : Vec F S1024x1408 .f32) (x1 : Vec F S256x1408 .f32) (x2 : Vec F S1x256 .f32) (x3 : Vec F S1408x256 .f32) (x4 : Vec F S1x1408 .f32) (x5 : Vec F S64x256 .f32) (x6 : Vec F S128x256 .f32) (x7 : Vec F S256x256 .f32) (y : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare y
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (o8 x0 x1 x2 x3 x4 x5 x6 x7) ∗ owns (c : Thread nD τ) arg10 fullShare (o9 x0 x1 x2 x5) ∗ owns (c : Thread nD τ) arg11 fullShare (o10 x0 x1 x2 x5 x6) ∗ owns (c : Thread nD τ) arg12 fullShare (o11 x0 x1 x2 x5 x6 x7) ∗ owns (c : Thread nD τ) arg13 fullShare (o12 x0 x1 x2 x5 x6 x7 (i 0).val y)) -∗ K ⟨⟩))
          ⊢ wp frame (wpE (defs₀ (F := F)) Variants.none c none) E (cc0__vq_kernel i arg1 harg1 arg2 harg2 arg3 harg3 arg4 harg4 arg5 harg5 arg6 harg6 arg7 harg7 arg8 harg8 arg9 harg9 arg10 harg10 arg11 harg11 arg12 harg12 arg13 harg13) K := by
    intro E K
    simp only [cc0__vq_kernel_eq_skeleton]; unfold cc0__vq_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      refine (read_store (S := S1024x1408) _ _ hz2 _ _).trans ?_
      sl_unfold_words
      unfold o8 sum2 crs2 nrm2 sum1 msk1 res1 sum0 oh0 zp
      simp only [View.readAt_eq_ld, harg1.read_unread, harg2.read_unread, harg3.read_unread, harg4.read_unread, harg5.read_unread, harg6.read_unread, harg7.read_unread, harg8.read_unread, harg13.read_unread, View.ld_unit_zero (S := S1024x1408) hz2, View.ld_unit_zero (S := S256x1408) hz2, View.ld_unit_zero (S := S1x256) hz2, View.ld_unit_zero (S := S1408x256) hz2, View.ld_unit_zero (S := S1x1408) hz2, View.ld_unit_zero (S := S64x256) hz2, View.ld_unit_zero (S := S128x256) hz2, View.ld_unit_zero (S := S256x256) hz2, View.ld_unit_zero (S := S1x1) hz2]
    isplitl [H9]
    · iexists _; isplitr; swap; · iexact H9
      ipureintro
      refine (read_store (S := S1x1x1024) _ _ hz3 _ _).trans ?_
      sl_unfold_words
      unfold o9
      simp only [View.readAt_eq_ld, harg1.read_unread, harg2.read_unread, harg3.read_unread, harg4.read_unread, harg5.read_unread, harg6.read_unread, harg7.read_unread, harg8.read_unread, harg13.read_unread, View.ld_unit_zero (S := S1024x1408) hz2, View.ld_unit_zero (S := S256x1408) hz2, View.ld_unit_zero (S := S1x256) hz2, View.ld_unit_zero (S := S1408x256) hz2, View.ld_unit_zero (S := S1x1408) hz2, View.ld_unit_zero (S := S64x256) hz2, View.ld_unit_zero (S := S128x256) hz2, View.ld_unit_zero (S := S256x256) hz2, View.ld_unit_zero (S := S1x1) hz2]
    isplitl [H10]
    · iexists _; isplitr; swap; · iexact H10
      ipureintro
      refine (read_store (S := S1x1x1024) _ _ hz3 _ _).trans ?_
      sl_unfold_words
      unfold o10 msk1 oh0 zp
      simp only [View.readAt_eq_ld, harg1.read_unread, harg2.read_unread, harg3.read_unread, harg4.read_unread, harg5.read_unread, harg6.read_unread, harg7.read_unread, harg8.read_unread, harg13.read_unread, View.ld_unit_zero (S := S1024x1408) hz2, View.ld_unit_zero (S := S256x1408) hz2, View.ld_unit_zero (S := S1x256) hz2, View.ld_unit_zero (S := S1408x256) hz2, View.ld_unit_zero (S := S1x1408) hz2, View.ld_unit_zero (S := S64x256) hz2, View.ld_unit_zero (S := S128x256) hz2, View.ld_unit_zero (S := S256x256) hz2, View.ld_unit_zero (S := S1x1) hz2]
    isplitl [H11]
    · iexists _; isplitr; swap; · iexact H11
      ipureintro
      refine (read_store (S := S1x1x1024) _ _ hz3 _ _).trans ?_
      sl_unfold_words
      unfold o11 crs2 nrm2 msk1 res1 oh0 zp
      simp only [View.readAt_eq_ld, harg1.read_unread, harg2.read_unread, harg3.read_unread, harg4.read_unread, harg5.read_unread, harg6.read_unread, harg7.read_unread, harg8.read_unread, harg13.read_unread, View.ld_unit_zero (S := S1024x1408) hz2, View.ld_unit_zero (S := S256x1408) hz2, View.ld_unit_zero (S := S1x256) hz2, View.ld_unit_zero (S := S1408x256) hz2, View.ld_unit_zero (S := S1x1408) hz2, View.ld_unit_zero (S := S64x256) hz2, View.ld_unit_zero (S := S128x256) hz2, View.ld_unit_zero (S := S256x256) hz2, View.ld_unit_zero (S := S1x1) hz2]
    iexists _; isplitr; swap; · iexact H12
    ipureintro
    refine (read_store (S := S1x1) _ _ hz2 _ _).trans ?_
    sl_unfold_words
    unfold o12 part2 crs2 nrm2 res2 part1 msk1 res1 part0 oh0 zp
    simp only [View.readAt_eq_ld, harg1.read_unread, harg2.read_unread, harg3.read_unread, harg4.read_unread, harg5.read_unread, harg6.read_unread, harg7.read_unread, harg8.read_unread, harg13.read_unread, View.ld_unit_zero (S := S1024x1408) hz2, View.ld_unit_zero (S := S256x1408) hz2, View.ld_unit_zero (S := S1x256) hz2, View.ld_unit_zero (S := S1408x256) hz2, View.ld_unit_zero (S := S1x1408) hz2, View.ld_unit_zero (S := S64x256) hz2, View.ld_unit_zero (S := S128x256) hz2, View.ld_unit_zero (S := S256x256) hz2, View.ld_unit_zero (S := S1x1) hz2]

end Cert.KernelIdeal.Body

end
-- ==== Proof.Launch.lean ====
/-
  The launch of the kernel: what every staging buffer holds after each grid point, the body obligation, and the run —
  every array of the pipeline ends as the write-backs of those values leave it, and every counter ends at zero.
-/
module

public import proofs.«01_k».proof.Proof.Body
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid has one axis: the coordinate of a point is its number. -/
theorem coord_val : ∀ t : Fin cfg0.N, (grid0.coords t 0).val = t.val :=
  (by decide +kernel : ∀ t : Fin grid0.N, (grid0.coords t 0).val = t.val)

/-- The loss after point `n`: each point adds its share to what the point before left, the first to zero. -/
def accs (c : Dev nD) : (n : ℕ) → n < cfg0.N → Vec F S1x1 .f32
  | 0, h => o12 (iblk m c 0 ⟨0, h⟩) (iblk m c 1 ⟨0, h⟩) (iblk m c 2 ⟨0, h⟩) (iblk m c 5 ⟨0, h⟩) (iblk m c 6 ⟨0, h⟩) (iblk m c 7 ⟨0, h⟩) 0
      (constant S1x1 .f32 0x00000000#32)
  | n + 1, h => o12 (iblk m c 0 ⟨n + 1, h⟩) (iblk m c 1 ⟨n + 1, h⟩) (iblk m c 2 ⟨n + 1, h⟩) (iblk m c 5 ⟨n + 1, h⟩) (iblk m c 6 ⟨n + 1, h⟩)
      (iblk m c 7 ⟨n + 1, h⟩) (n + 1) (accs c n (Nat.lt_of_succ_lt h))

/-- At the first point what the buffer held before is not used. -/
theorem o12_zero (x0 : Vec F S1024x1408 .f32) (x1 : Vec F S256x1408 .f32) (x2 : Vec F S1x256 .f32) (x5 : Vec F S64x256 .f32)
    (x6 : Vec F S128x256 .f32) (x7 : Vec F S256x256 .f32) (y y' : Vec F S1x1 .f32) :
    o12 x0 x1 x2 x5 x6 x7 0 y = o12 x0 x1 x2 x5 x6 x7 0 y' := by
  unfold o12 k0_pay2
  rfl

/-- The proof data: the arrays as the region finds them; after the body each input's buffer at its block, each
    output's at the body's value of the blocks, the loss's at the running sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => o8 (iblk m c 0 t) (iblk m c 1 t) (iblk m c 2 t) (iblk m c 3 t) (iblk m c 4 t) (iblk m c 5 t) (iblk m c 6 t) (iblk m c 7 t)
    | ⟨9, _⟩ => o9 (iblk m c 0 t) (iblk m c 1 t) (iblk m c 2 t) (iblk m c 5 t)
    | ⟨10, _⟩ => o10 (iblk m c 0 t) (iblk m c 1 t) (iblk m c 2 t) (iblk m c 5 t) (iblk m c 6 t)
    | ⟨11, _⟩ => o11 (iblk m c 0 t) (iblk m c 1 t) (iblk m c 2 t) (iblk m c 5 t) (iblk m c 6 t) (iblk m c 7 t)
    | ⟨12, _⟩ => accs m c t.val t.isLt
  Φ _ := Pipeline.ΦA spec0 c
  q _ := fullShare
  owed _ := 0

/-- The arrays at the launch hold what the host operations before it leave. -/
theorem A_eq (c : Dev nD) (w : Fin cfg0.W) : (dats m 0 c).A w = V m c (Pipeline.arrRef spec0 w) := by
  dsimp only [dats]

/-- What the proof data says that window 0's buffer holds after a point. -/
theorem after0_0 (c : Dev nD) (t : Fin cfg0.N) : (dats m 0 c).after 0 t = iblk m c 0 t := by dsimp only [dats]
/-- What the proof data says that window 1's buffer holds after a point. -/
theorem after0_1 (c : Dev nD) (t : Fin cfg0.N) : (dats m 0 c).after 1 t = iblk m c 1 t := by dsimp only [dats]
/-- What the proof data says that window 2's buffer holds after a point. -/
theorem after0_2 (c : Dev nD) (t : Fin cfg0.N) : (dats m 0 c).after 2 t = iblk m c 2 t := by dsimp only [dats]
/-- What the proof data says that window 3's buffer holds after a point. -/
theorem after0_3 (c : Dev nD) (t : Fin cfg0.N) : (dats m 0 c).after 3 t = iblk m c 3 t := by dsimp only [dats]
/-- What the proof data says that window 4's buffer holds after a point. -/
theorem after0_4 (c : Dev nD) (t : Fin cfg0.N) : (dats m 0 c).after 4 t = iblk m c 4 t := by dsimp only [dats]
/-- What the proof data says that window 5's buffer holds after a point. -/
theorem after0_5 (c : Dev nD) (t : Fin cfg0.N) : (dats m 0 c).after 5 t = iblk m c 5 t := by dsimp only [dats]
/-- What the proof data says that window 6's buffer holds after a point. -/
theorem after0_6 (c : Dev nD) (t : Fin cfg0.N) : (dats m 0 c).after 6 t = iblk m c 6 t := by dsimp only [dats]
/-- What the proof data says that window 7's buffer holds after a point. -/
theorem after0_7 (c : Dev nD) (t : Fin cfg0.N) : (dats m 0 c).after 7 t = iblk m c 7 t := by dsimp only [dats]
/-- What the proof data says that window 8's buffer holds after a point. -/
theorem after0_8 (c : Dev nD) (t : Fin cfg0.N) : (dats m 0 c).after 8 t = o8 (iblk m c 0 t) (iblk m c 1 t) (iblk m c 2 t) (iblk m c 3 t) (iblk m c 4 t) (iblk m c 5 t) (iblk m c 6 t) (iblk m c 7 t) := by dsimp only [dats]
/-- What the proof data says that window 9's buffer holds after a point. -/
theorem after0_9 (c : Dev nD) (t : Fin cfg0.N) : (dats m 0 c).after 9 t = o9 (iblk m c 0 t) (iblk m c 1 t) (iblk m c 2 t) (iblk m c 5 t) := by dsimp only [dats]
/-- What the proof data says that window 10's buffer holds after a point. -/
theorem after0_10 (c : Dev nD) (t : Fin cfg0.N) : (dats m 0 c).after 10 t = o10 (iblk m c 0 t) (iblk m c 1 t) (iblk m c 2 t) (iblk m c 5 t) (iblk m c 6 t) := by dsimp only [dats]
/-- What the proof data says that window 11's buffer holds after a point. -/
theorem after0_11 (c : Dev nD) (t : Fin cfg0.N) : (dats m 0 c).after 11 t = o11 (iblk m c 0 t) (iblk m c 1 t) (iblk m c 2 t) (iblk m c 5 t) (iblk m c 6 t) (iblk m c 7 t) := by dsimp only [dats]
/-- What the proof data says that window 12's buffer holds after a point. -/
theorem after0_12 (c : Dev nD) (t : Fin cfg0.N) : (dats m 0 c).after 12 t = accs m c t.val t.isLt := by dsimp only [dats]

/-- Before a point, window 0's buffer holds its block there. -/
theorem before0_0 (c : Dev nD) (t : Fin cfg0.N) (d) : (dats m 0 c).before 0 t d = iblk m c 0 t :=
  before0_0_of m (dats m 0 c) (A_eq m c 0) (after0_0 m c) t d
/-- Before a point, window 1's buffer holds its block there. -/
theorem before0_1 (c : Dev nD) (t : Fin cfg0.N) (d) : (dats m 0 c).before 1 t d = iblk m c 1 t :=
  before0_1_of m (dats m 0 c) (A_eq m c 1) (after0_1 m c) t d
/-- Before a point, window 2's buffer holds its block there. -/
theorem before0_2 (c : Dev nD) (t : Fin cfg0.N) (d) : (dats m 0 c).before 2 t d = iblk m c 2 t :=
  before0_2_of m (dats m 0 c) (A_eq m c 2) (after0_2 m c) t d
/-- Before a point, window 3's buffer holds its block there. -/
theorem before0_3 (c : Dev nD) (t : Fin cfg0.N) (d) : (dats m 0 c).before 3 t d = iblk m c 3 t :=
  before0_3_of m (dats m 0 c) (A_eq m c 3) (after0_3 m c) t d
/-- Before a point, window 4's buffer holds its block there. -/
theorem before0_4 (c : Dev nD) (t : Fin cfg0.N) (d) : (dats m 0 c).before 4 t d = iblk m c 4 t :=
  before0_4_of m (dats m 0 c) (A_eq m c 4) (after0_4 m c) t d
/-- Before a point, window 5's buffer holds its block there. -/
theorem before0_5 (c : Dev nD) (t : Fin cfg0.N) (d) : (dats m 0 c).before 5 t d = iblk m c 5 t :=
  before0_5_of m (dats m 0 c) (A_eq m c 5) (after0_5 m c) t d
/-- Before a point, window 6's buffer holds its block there. -/
theorem before0_6 (c : Dev nD) (t : Fin cfg0.N) (d) : (dats m 0 c).before 6 t d = iblk m c 6 t :=
  before0_6_of m (dats m 0 c) (A_eq m c 6) (after0_6 m c) t d
/-- Before a point, window 7's buffer holds its block there. -/
theorem before0_7 (c : Dev nD) (t : Fin cfg0.N) (d) : (dats m 0 c).before 7 t d = iblk m c 7 t :=
  before0_7_of m (dats m 0 c) (A_eq m c 7) (after0_7 m c) t d

/-- One point's loss from what its buffer held before is the running sum there. -/
theorem loss_step (c : Dev nD) (t : Fin cfg0.N) (d) :
    o12 (iblk m c 0 t) (iblk m c 1 t) (iblk m c 2 t) (iblk m c 5 t) (iblk m c 6 t) (iblk m c 7 t) (grid0.coords t 0).val ((dats m 0 c).before 12 t d)
      = accs m c t.val t.isLt := by
  rw [coord_val]
  obtain ⟨n, hn⟩ := t
  cases n with
  | zero => exact o12_zero _ _ _ _ _ _ _ _
  | succ n =>
    have hN : cfg0.N = 16 := N_0
    have hfl : (cfg0.win 12).flush ⟨n, Nat.lt_of_succ_lt hn⟩ = false := by
      rw [Bool.eq_false_iff]
      intro h
      have := (flush0_12 _).mp h
      dsimp only at this
      omega
    rw [(dats m 0 c).before_out_kept 12 rfl ⟨n + 1, hn⟩ (Nat.succ_ne_zero n) hfl (fun _ => rfl) (fun _ _ => rfl) d, after0_12]
    rfl

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t))

set_option maxHeartbeats 1200000 in
/-- The body at any point: the inputs' buffers hold their blocks and the loss's the sum so far, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((run_body c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((dats m 0 c).before 12 t d12)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexact H12
  rw [loss_step]
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What every other buffer holds at the end: the host operations after the region applied to the arrays the region leaves. -/
abbrev ends (c : Dev nD) (b : Ref sig .tc) : Buf (Elt F) ((c : Thread nD τ).loc b) :=
  Pipeline.afterTail₀ cfgs (dats m) 0 (V0 m) [hostOps1] c b

set_option backward.isDefEq.respectTransparency.types false in
set_option maxHeartbeats 800000 in
/-- The launch: every array of the pipeline ends as the write-backs leave it, every other buffer at `ends`, and every counter at zero. -/
theorem run_quiescent : θ_run defs (onTc (τ := τ) (main (F := F))) (s₀ m ρ) (fun r =>
      Pipeline.FramePost cfgs (dats m) 0 (ends m) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) ((θ_run defs _ _).mono (fun _ h => h.1) (run_quiescent m ρ))

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_quiescent m ρ))

end Cert.KernelIdeal.Body

end
-- ==== Proof.Ref.Ops.lean ====
/-
  The reference program's @main as one list of host operations, cut into stages: the input projection; for each of the
  three levels the distances, the nearest codeword, the lookup and the update; the output projection. The run of the
  program leaves in every buffer the operations' results folded over the initial contents.
-/
module

public import proofs.«01_k».proof.Proof.Gen.ReferenceIdeal
public import Idealize.ShloMosaic.Lib.Claim
public import Idealize.ShloMosaic.Lib.Quiescent
public import Idealize.ShloMosaic.Lib.Pipeline.Frame

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo Idealize.SL.Sem

variable {F : FTy → Type} [FloatOps F]

/-- The input projection, flattened to rows. -/
abbrev inOps : List (HloOp τ sig (Elt F)) :=
  [ unary main_arg1 main_v0 ((transpose S1408x256 [1, 0] · transposes_S256x1408_S1408x256_1_0) : (⟨S256x1408, .f32⟩ : BufTy).Contents (Elt F) → (⟨S1408x256, .f32⟩ : BufTy).Contents (Elt F)),
    binary main_arg0 main_v0 main_v1 ((fun l r => Host.dotGeneral dot_S8x2048x1408_S1408x256_S8x2048x256_2_0_01_1_n_n none l r) : (⟨S8x2048x1408, .f32⟩ : BufTy).Contents (Elt F) → (⟨S1408x256, .f32⟩ : BufTy).Contents (Elt F) → (⟨S8x2048x256, .f32⟩ : BufTy).Contents (Elt F)),
    unary main_arg2 main_v2 (broadcastInDim S1x1x256 ![2] bcast_S256_S1x1x256_2 : (⟨S256, .f32⟩ : BufTy).Contents (Elt F) → (⟨S1x1x256, .f32⟩ : BufTy).Contents (Elt F)),
    unary main_v2 main_v3 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v1 main_v3 main_v4 (addf : (⟨S8x2048x256, .f32⟩ : BufTy).Contents (Elt F) → (⟨S8x2048x256, .f32⟩ : BufTy).Contents (Elt F) → (⟨S8x2048x256, .f32⟩ : BufTy).Contents (Elt F)),
    reshape main_v4 main_v5 (rfl : (.f32 : EltTy) = .f32) shapeCasts_S8x2048x256_S16384x256 ]

/-- Level 0: the squared distances of every row to every codeword. -/
abbrev distOps0 : List (HloOp τ sig (Elt F)) :=
  [ binary main_v5 main_v5 main_v6 (mulf : (⟨S16384x256, .f32⟩ : BufTy).Contents (Elt F) → (⟨S16384x256, .f32⟩ : BufTy).Contents (Elt F) → (⟨S16384x256, .f32⟩ : BufTy).Contents (Elt F)),
    nullary main_cst (constant S_ .f32 0x00000000#32),
    binary main_v6 main_cst main_v7 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    nullary main_cst_0 (constant S_ .f32 0x40000000#32),
    unary main_cst_0 main_v9 (broadcastInDim S16384x256 ![] bcast_S_S16384x256 : (⟨S_, .f32⟩ : BufTy).Contents (Elt F) → (⟨S16384x256, .f32⟩ : BufTy).Contents (Elt F)),
    binary main_v9 main_v5 main_v10 (mulf : (⟨S16384x256, .f32⟩ : BufTy).Contents (Elt F) → (⟨S16384x256, .f32⟩ : BufTy).Contents (Elt F) → (⟨S16384x256, .f32⟩ : BufTy).Contents (Elt F)),
    unary main_arg5 main_v11 ((transpose S256x64 [1, 0] · transposes_S64x256_S256x64_1_0) : (⟨S64x256, .f32⟩ : BufTy).Contents (Elt F) → (⟨S256x64, .f32⟩ : BufTy).Contents (Elt F)),
    binary main_v10 main_v11 main_v12 ((fun l r => Host.dotGeneral dot_S16384x256_S256x64_S16384x64_1_0_0_1_n_n none l r) : (⟨S16384x256, .f32⟩ : BufTy).Contents (Elt F) → (⟨S256x64, .f32⟩ : BufTy).Contents (Elt F) → (⟨S16384x64, .f32⟩ : BufTy).Contents (Elt F)),
    unary main_v8 main_v13 (broadcastInDim S16384x64 ![0, 1] bcast_S16384x1_S16384x64_0_1 : (⟨S16384x1, .f32⟩ : BufTy).Contents (Elt F) → (⟨S16384x64, .f32⟩ : BufTy).Contents (Elt F)),
    binary main_v13 main_v12 main_v14 (subf : (⟨S16384x64, .f32⟩ : BufTy).Contents (Elt F) → (⟨S16384x64, .f32⟩ : BufTy).Contents (Elt F) → (⟨S16384x64, .f32⟩ : BufTy).Contents (Elt F)),
    binary main_arg5 main_arg5 main_v15 (mulf : (⟨S64x256, .f32⟩ : BufTy).Contents (Elt F) → (⟨S64x256, .f32⟩ : BufTy).Contents (Elt F) → (⟨S64x256, .f32⟩ : BufTy).Contents (Elt F)),
    nullary main_cst_1 (constant S_ .f32 0x00000000#32),
    binary main_v15 main_cst_1 main_v16 ((fun x v => Host.reduceAdd x v reducesTo_S64x256_S64_d1 h_S_) : (⟨S64x256, .f32⟩ : BufTy).Contents (Elt F) → (⟨S_, .f32⟩ : BufTy).Contents (Elt F) → (⟨S64, .f32⟩ : BufTy).Contents (Elt F)),
    unary main_v16 main_v17 (broadcastInDim S1x64 ![1] bcast_S64_S1x64_1 : (⟨S64, .f32⟩ : BufTy).Contents (Elt F) → (⟨S1x64, .f32⟩ : BufTy).Contents (Elt F)),
    unary main_v17 main_v18 (broadcastInDim S16384x64 ![0, 1] bcast_S1x64_S16384x64_0_1 : (⟨S1x64, .f32⟩ : BufTy).Contents (Elt F) → (⟨S16384x64, .f32⟩ : BufTy).Contents (Elt F)),
    binary main_v14 main_v18 main_v19 (addf : (⟨S16384x64, .f32⟩ : BufTy).Contents (Elt F) → (⟨S16384x64, .f32⟩ : BufTy).Contents (Elt F) → (⟨S16384x64, .f32⟩ : BufTy).Contents (Elt F)) ]

/-- Level 0: the first nearest codeword of every row. -/
abbrev minOps0 : List (HloOp τ sig (Elt F)) :=
  [ nullary main_call0_v0 (iotaInDim S16384x64 32 1),
    nullary main_call0_cst (constant S_ .f32 0x7F800000#32),
    nullary main_call0_c (constantI S_ 32 0#32),
    quaternary main_v19 main_call0_v0 main_call0_cst main_call0_c main_call0_v1_0 (fun x y u v j => (Host.argReduce reducer_argmin_f32_i32 x y u v reducesTo_S16384x64_S16384_d1 h_S_ j).1),
    quaternary main_v19 main_call0_v0 main_call0_cst main_call0_c main_v20 (fun x y u v j => (Host.argReduce reducer_argmin_f32_i32 x y u v reducesTo_S16384x64_S16384_d1 h_S_ j).2) ]

/-- Level 0: the nearest codewords themselves. -/
abbrev pickOps0 : List (HloOp τ sig (Elt F)) :=
  [ nullary main_c (constantI S_ 32 0#32),
    unary main_c main_v21 (broadcastInDim S16384 ![] bcast_S_S16384 : (⟨S_, .i32⟩ : BufTy).Contents (Elt F) → (⟨S16384, .i32⟩ : BufTy).Contents (Elt F)),
    binary main_v20 main_v21 main_v22 (cmpi .slt : (⟨S16384, .i32⟩ : BufTy).Contents (Elt F) → (⟨S16384, .i32⟩ : BufTy).Contents (Elt F) → (⟨S16384, .i1⟩ : BufTy).Contents (Elt F)),
    nullary main_c_2 (constantI S_ 32 64#32),
    unary main_c_2 main_v23 (broadcastInDim S16384 ![] bcast_S_S16384 : (⟨S_, .i32⟩ : BufTy).Contents (Elt F) → (⟨S16384, .i32⟩ : BufTy).Contents (Elt F)),
    binary main_v20 main_v23 main_v24 (addi : (⟨S16384, .i32⟩ : BufTy).Contents (Elt F) → (⟨S16384, .i32⟩ : BufTy).Contents (Elt F) → (⟨S16384, .i32⟩ : BufTy).Contents (Elt F)),
    ternary main_v22 main_v24 main_v20 main_v25 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v25 main_v26 (broadcastInDim S16384x1 ![0] bcast_S16384_S16384x1_0 : (⟨S16384, .i32⟩ : BufTy).Contents (Elt F) → (⟨S16384x1, .i32⟩ : BufTy).Contents (Elt F)),
    binary main_arg5 main_v26 main_v27 ((fun x i => Host.gather gather_S64x256_S16384x1_S16384x256_1_0_n_n_0_1_1256 x i) : (⟨S64x256, .f32⟩ : BufTy).Contents (Elt F) → (⟨S16384x1, .i32⟩ : BufTy).Contents (Elt F) → (⟨S16384x256, .f32⟩ : BufTy).Contents (Elt F)) ]

/-- Level 0: the loss term, the straight-through rows, the indices, the next residual. -/
abbrev updOps0 : List (HloOp τ sig (Elt F)) :=
  [ binary main_v27 main_v5 main_v28 (subf : (⟨S16384x256, .f32⟩ : BufTy).Contents (Elt F) → (⟨S16384x256, .f32⟩ : BufTy).Contents (Elt F) → (⟨S16384x256, .f32⟩ : BufTy).Contents (Elt F)),
    binary main_v28 main_v28 main_v29 (mulf : (⟨S16384x256, .f32⟩ : BufTy).Contents (Elt F) → (⟨S16384x256, .f32⟩ : BufTy).Contents (Elt F) → (⟨S16384x256, .f32⟩ : BufTy).Contents (Elt F)),
    nullary main_cst_3 (constant S_ .f32 0x00000000#32),
    binary main_v29 main_cst_3 main_v30 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_4 (constant S_ .f32 0x4A800000#32),
    binary main_v30 main_cst_4 main_v31 (Host.divf : (⟨S_, .f32⟩ : BufTy).Contents (Elt F) → (⟨S_, .f32⟩ : BufTy).Contents (Elt F) → (⟨S_, .f32⟩ : BufTy).Contents (Elt F)),
    nullary main_cst_5 (constant S_ .f32 0x3E800000#32),
    binary main_cst_5 main_v31 main_v32 (mulf : (⟨S_, .f32⟩ : BufTy).Contents (Elt F) → (⟨S_, .f32⟩ : BufTy).Contents (Elt F) → (⟨S_, .f32⟩ : BufTy).Contents (Elt F)),
    binary main_v27 main_v5 main_v33 (subf : (⟨S16384x256, .f32⟩ : BufTy).Contents (Elt F) → (⟨S16384x256, .f32⟩ : BufTy).Contents (Elt F) → (⟨S16384x256, .f32⟩ : BufTy).Contents (Elt F)),
    binary main_v5 main_v33 main_v34 (addf : (⟨S16384x256, .f32⟩ : BufTy).Contents (Elt F) → (⟨S16384x256, .f32⟩ : BufTy).Contents (Elt F) → (⟨S16384x256, .f32⟩ : BufTy).Contents (Elt F)),
    reshape main_v20 main_v35 (rfl : (.i32 : EltTy) = .i32) shapeCasts_S16384_S8x2048,
    nullary main_cst_6 (constant S_ .f32 0x00000000#32),
    binary main_cst_6 main_v32 main_v36 (addf : (⟨S_, .f32⟩ : BufTy).Contents (Elt F) → (⟨S_, .f32⟩ : BufTy).Contents (Elt F) → (⟨S_, .f32⟩ : BufTy).Contents (Elt F)),
    binary main_v5 main_v27 main_v37 (subf : (⟨S16384x256, .f32⟩ : BufTy).Contents (Elt F) → (⟨S16384x256, .f32⟩ : BufTy).Contents (Elt F) → (⟨S16384x256, .f32⟩ : BufTy).Contents (Elt F)) ]

/-- Level 1: the squared distances of every row to every codeword. -/
abbrev distOps1 : List (HloOp τ sig (Elt F)) :=
  [ binary main_v37 main_v37 main_v38 (mulf : (⟨S16384x256, .f32⟩ : BufTy).Contents (Elt F) → (⟨S16384x256, .f32⟩ : BufTy).Contents (Elt F) → (⟨S16384x256, .f32⟩ : BufTy).Contents (Elt F)),
    nullary main_cst_7 (constant S_ .f32 0x00000000#32),
    binary main_v38 main_cst_7 main_v39 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v39 main_v40 (broadcastInDim S16384x1 ![0] bcast_S16384_S16384x1_0 : (⟨S16384, .f32⟩ : BufTy).Contents (Elt F) → (⟨S16384x1, .f32⟩ : BufTy).Contents (Elt F)),
    nullary main_cst_8 (constant S_ .f32 0x40000000#32),
    unary main_cst_8 main_v41 (broadcastInDim S16384x256 ![] bcast_S_S16384x256 : (⟨S_, .f32⟩ : BufTy).Contents (Elt F) → (⟨S16384x256, .f32⟩ : BufTy).Contents (Elt F)),
    binary main_v41 main_v37 main_v42 (mulf : (⟨S16384x256, .f32⟩ : BufTy).Contents (Elt F) → (⟨S16384x256, .f32⟩ : BufTy).Contents (Elt F) → (⟨S16384x256, .f32⟩ : BufTy).Contents (Elt F)),
    unary main_arg6 main_v43 ((transpose S256x128 [1, 0] · transposes_S128x256_S256x128_1_0) : (⟨S128x256, .f32⟩ : BufTy).Contents (Elt F) → (⟨S256x128, .f32⟩ : BufTy).Contents (Elt F)),
    binary main_v42 main_v43 main_v44 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_v40 main_v45 (broadcastInDim S16384x128 ![0, 1] bcast_S16384x1_S16384x128_0_1 : (⟨S16384x1, .f32⟩ : BufTy).Contents (Elt F) → (⟨S16384x128, .f32⟩ : BufTy).Contents (Elt F)),
    binary main_v45 main_v44 main_v46 (subf : (⟨S16384x128, .f32⟩ : BufTy).Contents (Elt F) → (⟨S16384x128, .f32⟩ : BufTy).Contents (Elt F) → (⟨S16384x128, .f32⟩ : BufTy).Contents (Elt F)),
    binary main_arg6 main_arg6 main_v47 (mulf : (⟨S128x256, .f32⟩ : BufTy).Contents (Elt F) → (⟨S128x256, .f32⟩ : BufTy).Contents (Elt F) → (⟨S128x256, .f32⟩ : BufTy).Contents (Elt F)),
    nullary main_cst_9 (constant S_ .f32 0x00000000#32),
    binary main_v47 main_cst_9 main_v48 ((fun x v => Host.reduceAdd x v reducesTo_S128x256_S128_d1 h_S_) : (⟨S128x256, .f32⟩ : BufTy).Contents (Elt F) → (⟨S_, .f32⟩ : BufTy).Contents (Elt F) → (⟨S128, .f32⟩ : BufTy).Contents (Elt F)),
    unary main_v48 main_v49 (broadcastInDim S1x128 ![1] bcast_S128_S1x128_1 : (⟨S128, .f32⟩ : BufTy).Contents (Elt F) → (⟨S1x128, .f32⟩ : BufTy).Contents (Elt F)),
    unary main_v49 main_v50 (broadcastInDim S16384x128 ![0, 1] bcast_S1x128_S16384x128_0_1 : (⟨S1x128, .f32⟩ : BufTy).Contents (Elt F) → (⟨S16384x128, .f32⟩ : BufTy).Contents (Elt F)),
    binary main_v46 main_v50 main_v51 (addf : (⟨S16384x128, .f32⟩ : BufTy).Contents (Elt F) → (⟨S16384x128, .f32⟩ : BufTy).Contents (Elt F) → (⟨S16384x128, .f32⟩ : BufTy).Contents (Elt F)) ]

/-- Level 1: the first nearest codeword of every row. -/
abbrev minOps1 : List (HloOp τ sig (Elt F)) :=
  [ nullary main_call1_v0 (iotaInDim S16384x128 32 1),
    nullary main_call1_cst (constant S_ .f32 0x7F800000#32),
    nullary main_call1_c (constantI S_ 32 0#32),
    quaternary main_v51 main_call1_v0 main_call1_cst main_call1_c main_call1_v1_0 (fun x y u v j => (Host.argReduce reducer_argmin_f32_i32 x y u v reducesTo_S16384x128_S16384_d1 h_S_ j).1),
    quaternary main_v51 main_call1_v0 main_call1_cst main_call1_c main_v52 (fun x y u v j => (Host.argReduce reducer_argmin_f32_i32 x y u v reducesTo_S16384x128_S16384_d1 h_S_ j).2) ]

/-- Level 1: the nearest codewords themselves. -/
abbrev pickOps1 : List (HloOp τ sig (Elt F)) :=
  [ nullary main_c_10 (constantI S_ 32 0#32),
    unary main_c_10 main_v53 (broadcastInDim S16384 ![] bcast_S_S16384 : (⟨S_, .i32⟩ : BufTy).Contents (Elt F) → (⟨S16384, .i32⟩ : BufTy).Contents (Elt F)),
    binary main_v52 main_v53 main_v54 (cmpi .slt : (⟨S16384, .i32⟩ : BufTy).Contents (Elt F) → (⟨S16384, .i32⟩ : BufTy).Contents (Elt F) → (⟨S16384, .i1⟩ : BufTy).Contents (Elt F)),
    nullary main_c_11 (constantI S_ 32 128#32),
    unary main_c_11 main_v55 (broadcastInDim S16384 ![] bcast_S_S16384 : (⟨S_, .i32⟩ : BufTy).Contents (Elt F) → (⟨S16384, .i32⟩ : BufTy).Contents (Elt F)),
    binary main_v52 main_v55 main_v56 (addi : (⟨S16384, .i32⟩ : BufTy).Contents (Elt F) → (⟨S16384, .i32⟩ : BufTy).Contents (Elt F) → (⟨S16384, .i32⟩ : BufTy).Contents (Elt F)),
    ternary main_v54 main_v56 main_v52 main_v57 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v57 main_v58 (broadcastInDim S16384x1 ![0] bcast_S16384_S16384x1_0 : (⟨S16384, .i32⟩ : BufTy).Contents (Elt F) → (⟨S16384x1, .i32⟩ : BufTy).Contents (Elt F)),
    binary main_arg6 main_v58 main_v59 ((fun x i => Host.gather gather_S128x256_S16384x1_S16384x256_1_0_n_n_0_1_1256 x i) : (⟨S128x256, .f32⟩ : BufTy).Contents (Elt F) → (⟨S16384x1, .i32⟩ : BufTy).Contents (Elt F) → (⟨S16384x256, .f32⟩ : BufTy).Contents (Elt F)) ]

/-- Level 1: the loss term, the straight-through rows, the indices, the next residual. -/
abbrev updOps1 : List (HloOp τ sig (Elt F)) :=
  [ binary main_v59 main_v37 main_v60 (subf : (⟨S16384x256, .f32⟩ : BufTy).Contents (Elt F) → (⟨S16384x256, .f32⟩ : BufTy).Contents (Elt F) → (⟨S16384x256, .f32⟩ : BufTy).Contents (Elt F)),
    binary main_v60 main_v60 main_v61 (mulf : (⟨S16384x256, .f32⟩ : BufTy).Contents (Elt F) → (⟨S16384x256, .f32⟩ : BufTy).Contents (Elt F) → (⟨S16384x256, .f32⟩ : BufTy).Contents (Elt F)),
    nullary main_cst_12 (constant S_ .f32 0x00000000#32),
    binary main_v61 main_cst_12 main_v62 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_13 (constant S_ .f32 0x4A800000#32),
    binary main_v62 main_cst_13 main_v63 (Host.divf : (⟨S_, .f32⟩ : BufTy).Contents (Elt F) → (⟨S_, .f32⟩ : BufTy).Contents (Elt F) → (⟨S_, .f32⟩ : BufTy).Contents (Elt F)),
    nullary main_cst_14 (constant S_ .f32 0x3E800000#32),
    binary main_cst_14 main_v63 main_v64 (mulf : (⟨S_, .f32⟩ : BufTy).Contents (Elt F) → (⟨S_, .f32⟩ : BufTy).Contents (Elt F) → (⟨S_, .f32⟩ : BufTy).Contents (Elt F)),
    binary main_v59 main_v37 main_v65 (subf : (⟨S16384x256, .f32⟩ : BufTy).Contents (Elt F) → (⟨S16384x256, .f32⟩ : BufTy).Contents (Elt F) → (⟨S16384x256, .f32⟩ : BufTy).Contents (Elt F)),
    binary main_v37 main_v65 main_v66 (addf : (⟨S16384x256, .f32⟩ : BufTy).Contents (Elt F) → (⟨S16384x256, .f32⟩ : BufTy).Contents (Elt F) → (⟨S16384x256, .f32⟩ : BufTy).Contents (Elt F)),
    reshape main_v52 main_v67 (rfl : (.i32 : EltTy) = .i32) shapeCasts_S16384_S8x2048,
    binary main_v36 main_v64 main_v68 (addf : (⟨S_, .f32⟩ : BufTy).Contents (Elt F) → (⟨S_, .f32⟩ : BufTy).Contents (Elt F) → (⟨S_, .f32⟩ : BufTy).Contents (Elt F)),
    binary main_v37 main_v59 main_v69 (subf : (⟨S16384x256, .f32⟩ : BufTy).Contents (Elt F) → (⟨S16384x256, .f32⟩ : BufTy).Contents (Elt F) → (⟨S16384x256, .f32⟩ : BufTy).Contents (Elt F)) ]

/-- Level 2: the squared distances of every row to every codeword. -/
abbrev distOps2 : List (HloOp τ sig (Elt F)) :=
  [ binary main_v69 main_v69 main_v70 (mulf : (⟨S16384x256, .f32⟩ : BufTy).Contents (Elt F) → (⟨S16384x256, .f32⟩ : BufTy).Contents (Elt F) → (⟨S16384x256, .f32⟩ : BufTy).Contents (Elt F)),
    nullary main_cst_15 (constant S_ .f32 0x00000000#32),
    binary main_v70 main_cst_15 main_v71 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v71 main_v72 (broadcastInDim S16384x1 ![0] bcast_S16384_S16384x1_0 : (⟨S16384, .f32⟩ : BufTy).Contents (Elt F) → (⟨S16384x1, .f32⟩ : BufTy).Contents (Elt F)),
    nullary main_cst_16 (constant S_ .f32 0x40000000#32),
    unary main_cst_16 main_v73 (broadcastInDim S16384x256 ![] bcast_S_S16384x256 : (⟨S_, .f32⟩ : BufTy).Contents (Elt F) → (⟨S16384x256, .f32⟩ : BufTy).Contents (Elt F)),
    binary main_v73 main_v69 main_v74 (mulf : (⟨S16384x256, .f32⟩ : BufTy).Contents (Elt F) → (⟨S16384x256, .f32⟩ : BufTy).Contents (Elt F) → (⟨S16384x256, .f32⟩ : BufTy).Contents (Elt F)),
    unary main_arg7 main_v75 ((transpose S256x256 [1, 0] · transposes_S256x256_S256x256_1_0) : (⟨S256x256, .f32⟩ : BufTy).Contents (Elt F) → (⟨S256x256, .f32⟩ : BufTy).Contents (Elt F)),
    binary main_v74 main_v75 main_v76 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    unary main_v72 main_v77 (broadcastInDim S16384x256 ![0, 1] bcast_S16384x1_S16384x256_0_1 : (⟨S16384x1, .f32⟩ : BufTy).Contents (Elt F) → (⟨S16384x256, .f32⟩ : BufTy).Contents (Elt F)),
    binary main_v77 main_v76 main_v78 (subf : (⟨S16384x256, .f32⟩ : BufTy).Contents (Elt F) → (⟨S16384x256, .f32⟩ : BufTy).Contents (Elt F) → (⟨S16384x256, .f32⟩ : BufTy).Contents (Elt F)),
    binary main_arg7 main_arg7 main_v79 (mulf : (⟨S256x256, .f32⟩ : BufTy).Contents (Elt F) → (⟨S256x256, .f32⟩ : BufTy).Contents (Elt F) → (⟨S256x256, .f32⟩ : BufTy).Contents (Elt F)),
    nullary main_cst_17 (constant S_ .f32 0x00000000#32),
    binary main_v79 main_cst_17 main_v80 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F)),
    unary main_v80 main_v81 (broadcastInDim S1x256 ![1] bcast_S256_S1x256_1 : (⟨S256, .f32⟩ : BufTy).Contents (Elt F) → (⟨S1x256, .f32⟩ : BufTy).Contents (Elt F)),
    unary main_v81 main_v82 (broadcastInDim S16384x256 ![0, 1] bcast_S1x256_S16384x256_0_1 : (⟨S1x256, .f32⟩ : BufTy).Contents (Elt F) → (⟨S16384x256, .f32⟩ : BufTy).Contents (Elt F)),
    binary main_v78 main_v82 main_v83 (addf : (⟨S16384x256, .f32⟩ : BufTy).Contents (Elt F) → (⟨S16384x256, .f32⟩ : BufTy).Contents (Elt F) → (⟨S16384x256, .f32⟩ : BufTy).Contents (Elt F)) ]

/-- Level 2: the first nearest codeword of every row. -/
abbrev minOps2 : List (HloOp τ sig (Elt F)) :=
  [ nullary main_call2_v0 (iotaInDim S16384x256 32 1),
    nullary main_call2_cst (constant S_ .f32 0x7F800000#32),
    nullary main_call2_c (constantI S_ 32 0#32),
    quaternary main_v83 main_call2_v0 main_call2_cst main_call2_c main_call2_v1_0 (fun x y u v j => (Host.argReduce reducer_argmin_f32_i32 x y u v reducesTo_S16384x256_S16384_d1 h_S_ j).1),
    quaternary main_v83 main_call2_v0 main_call2_cst main_call2_c main_v84 (fun x y u v j => (Host.argReduce reducer_argmin_f32_i32 x y u v reducesTo_S16384x256_S16384_d1 h_S_ j).2) ]

/-- Level 2: the nearest codewords themselves. -/
abbrev pickOps2 : List (HloOp τ sig (Elt F)) :=
  [ nullary main_c_18 (constantI S_ 32 0#32),
    unary main_c_18 main_v85 (broadcastInDim S16384 ![] bcast_S_S16384 : (⟨S_, .i32⟩ : BufTy).Contents (Elt F) → (⟨S16384, .i32⟩ : BufTy).Contents (Elt F)),
    binary main_v84 main_v85 main_v86 (cmpi .slt : (⟨S16384, .i32⟩ : BufTy).Contents (Elt F) → (⟨S16384, .i32⟩ : BufTy).Contents (Elt F) → (⟨S16384, .i1⟩ : BufTy).Contents (Elt F)),
    nullary main_c_19 (constantI S_ 32 256#32),
    unary main_c_19 main_v87 (broadcastInDim S16384 ![] bcast_S_S16384 : (⟨S_, .i32⟩ : BufTy).Contents (Elt F) → (⟨S16384, .i32⟩ : BufTy).Contents (Elt F)),
    binary main_v84 main_v87 main_v88 (addi : (⟨S16384, .i32⟩ : BufTy).Contents (Elt F) → (⟨S16384, .i32⟩ : BufTy).Contents (Elt F) → (⟨S16384, .i32⟩ : BufTy).Contents (Elt F)),
    ternary main_v86 main_v88 main_v84 main_v89 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v89 main_v90 (broadcastInDim S16384x1 ![0] bcast_S16384_S16384x1_0 : (⟨S16384, .i32⟩ : BufTy).Contents (Elt F) → (⟨S16384x1, .i32⟩ : BufTy).Contents (Elt F)),
    binary main_arg7 main_v90 main_v91 ((fun x i => Host.gather gather_S256x256_S16384x1_S16384x256_1_0_n_n_0_1_1256 x i) : (⟨S256x256, .f32⟩ : BufTy).Contents (Elt F) → (⟨S16384x1, .i32⟩ : BufTy).Contents (Elt F) → (⟨S16384x256, .f32⟩ : BufTy).Contents (Elt F)) ]

/-- Level 2: the loss term, the straight-through rows, the indices, the next residual. -/
abbrev updOps2 : List (HloOp τ sig (Elt F)) :=
  [ binary main_v91 main_v69 main_v92 (subf : (⟨S16384x256, .f32⟩ : BufTy).Contents (Elt F) → (⟨S16384x256, .f32⟩ : BufTy).Contents (Elt F) → (⟨S16384x256, .f32⟩ : BufTy).Contents (Elt F)),
    binary main_v92 main_v92 main_v93 (mulf : (⟨S16384x256, .f32⟩ : BufTy).Contents (Elt F) → (⟨S16384x256, .f32⟩ : BufTy).Contents (Elt F) → (⟨S16384x256, .f32⟩ : BufTy).Contents (Elt F)),
    nullary main_cst_20 (constant S_ .f32 0x00000000#32),
    binary main_v93 main_cst_20 main_v94 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_21 (constant S_ .f32 0x4A800000#32),
    binary main_v94 main_cst_21 main_v95 (Host.divf : (⟨S_, .f32⟩ : BufTy).Contents (Elt F) → (⟨S_, .f32⟩ : BufTy).Contents (Elt F) → (⟨S_, .f32⟩ : BufTy).Contents (Elt F)),
    nullary main_cst_22 (constant S_ .f32 0x3E800000#32),
    binary main_cst_22 main_v95 main_v96 (mulf : (⟨S_, .f32⟩ : BufTy).Contents (Elt F) → (⟨S_, .f32⟩ : BufTy).Contents (Elt F) → (⟨S_, .f32⟩ : BufTy).Contents (Elt F)),
    binary main_v91 main_v69 main_v97 (subf : (⟨S16384x256, .f32⟩ : BufTy).Contents (Elt F) → (⟨S16384x256, .f32⟩ : BufTy).Contents (Elt F) → (⟨S16384x256, .f32⟩ : BufTy).Contents (Elt F)),
    binary main_v69 main_v97 main_v98 (addf : (⟨S16384x256, .f32⟩ : BufTy).Contents (Elt F) → (⟨S16384x256, .f32⟩ : BufTy).Contents (Elt F) → (⟨S16384x256, .f32⟩ : BufTy).Contents (Elt F)),
    reshape main_v84 main_v99 (rfl : (.i32 : EltTy) = .i32) shapeCasts_S16384_S8x2048,
    binary main_v68 main_v96 main_v100 (addf : (⟨S_, .f32⟩ : BufTy).Contents (Elt F) → (⟨S_, .f32⟩ : BufTy).Contents (Elt F) → (⟨S_, .f32⟩ : BufTy).Contents (Elt F)),
    binary main_v69 main_v91 main_v101 (subf : (⟨S16384x256, .f32⟩ : BufTy).Contents (Elt F) → (⟨S16384x256, .f32⟩ : BufTy).Contents (Elt F) → (⟨S16384x256, .f32⟩ : BufTy).Contents (Elt F)) ]

/-- The output projection and the scaled loss. -/
abbrev outOps : List (HloOp τ sig (Elt F)) :=
  [ binary main_v34 main_v66 main_v102 (addf : (⟨S16384x256, .f32⟩ : BufTy).Contents (Elt F) → (⟨S16384x256, .f32⟩ : BufTy).Contents (Elt F) → (⟨S16384x256, .f32⟩ : BufTy).Contents (Elt F)),
    binary main_v102 main_v98 main_v103 (addf : (⟨S16384x256, .f32⟩ : BufTy).Contents (Elt F) → (⟨S16384x256, .f32⟩ : BufTy).Contents (Elt F) → (⟨S16384x256, .f32⟩ : BufTy).Contents (Elt F)),
    reshape main_v103 main_v104 (rfl : (.f32 : EltTy) = .f32) shapeCasts_S16384x256_S8x2048x256,
    unary main_arg3 main_v105 ((transpose S256x1408 [1, 0] · transposes_S1408x256_S256x1408_1_0) : (⟨S1408x256, .f32⟩ : BufTy).Contents (Elt F) → (⟨S256x1408, .f32⟩ : BufTy).Contents (Elt F)),
    binary main_v104 main_v105 main_v106 ((fun l r => Host.dotGeneral dot_S8x2048x256_S256x1408_S8x2048x1408_2_0_01_1_n_n none l r) : (⟨S8x2048x256, .f32⟩ : BufTy).Contents (Elt F) → (⟨S256x1408, .f32⟩ : BufTy).Contents (Elt F) → (⟨S8x2048x1408, .f32⟩ : BufTy).Contents (Elt F)),
    unary main_arg4 main_v107 (broadcastInDim S1x1x1408 ![2] bcast_S1408_S1x1x1408_2 : (⟨S1408, .f32⟩ : BufTy).Contents (Elt F) → (⟨S1x1x1408, .f32⟩ : BufTy).Contents (Elt F)),
    unary main_v107 main_v108 (broadcastInDim S8x2048x1408 ![0, 1, 2] bcast_S1x1x1408_S8x2048x1408_0_1_2 : (⟨S1x1x1408, .f32⟩ : BufTy).Contents (Elt F) → (⟨S8x2048x1408, .f32⟩ : BufTy).Contents (Elt F)),
    binary main_v106 main_v108 main_v109 (addf : (⟨S8x2048x1408, .f32⟩ : BufTy).Contents (Elt F) → (⟨S8x2048x1408, .f32⟩ : BufTy).Contents (Elt F) → (⟨S8x2048x1408, .f32⟩ : BufTy).Contents (Elt F)),
    binary main_v109 main_arg0 main_v110 (subf : (⟨S8x2048x1408, .f32⟩ : BufTy).Contents (Elt F) → (⟨S8x2048x1408, .f32⟩ : BufTy).Contents (Elt F) → (⟨S8x2048x1408, .f32⟩ : BufTy).Contents (Elt F)),
    binary main_arg0 main_v110 main_v111 (addf : (⟨S8x2048x1408, .f32⟩ : BufTy).Contents (Elt F) → (⟨S8x2048x1408, .f32⟩ : BufTy).Contents (Elt F) → (⟨S8x2048x1408, .f32⟩ : BufTy).Contents (Elt F)),
    nullary main_cst_23 (constant S_ .f32 0x40400000#32),
    binary main_v100 main_cst_23 main_v112 (Host.divf : (⟨S_, .f32⟩ : BufTy).Contents (Elt F) → (⟨S_, .f32⟩ : BufTy).Contents (Elt F) → (⟨S_, .f32⟩ : BufTy).Contents (Elt F)) ]

/-- The operations of @main's part 0. -/
theorem part0_eq (c : Dev nD) : main_part0 (F := F) c = seq (inOps ++ (distOps0 ++ (minOps0 ++ (pickOps0 ++ (updOps0 ++ (distOps1.take 13)))))) := rfl

/-- The operations of @main's part 1. -/
theorem part1_eq (c : Dev nD) : main_part1 (F := F) c = seq (distOps1.drop 13 ++ (minOps1 ++ (pickOps1 ++ (updOps1 ++ (distOps2 ++ (minOps2 ++ (pickOps2 ++ (updOps2.take 6)))))))) := rfl

/-- The operations of @main's part 2. -/
theorem part2_eq (c : Dev nD) : main_part2 (F := F) c = seq (updOps2.drop 6 ++ (outOps)) := rfl

/-- All the operations of @main, in order. -/
abbrev ops : List (HloOp τ sig (Elt F)) :=
  inOps ++ (distOps0 ++ (minOps0 ++ (pickOps0 ++ (updOps0 ++ (distOps1 ++ (minOps1 ++ (pickOps1 ++ (updOps1 ++ (distOps2 ++ (minOps2 ++ (pickOps2 ++ (updOps2 ++ (outOps)))))))))))))

/-- @main is that straight line. -/
theorem main_eq (c : Dev nD) : main (F := F) c = seq ops := by
  have h : (main (F := F) c) = (main_part0 c >>= fun _ => main_part1 c >>= fun _ => main_part2 c) := rfl
  rw [h, part0_eq, part1_eq, part2_eq, ← seq_append, ← seq_append]
  rfl

/-- Every operation touches TensorCore references only. -/
theorem ops_sub : (ops : List (HloOp τ sig (Elt F))).Forall fun op => op.bufs ⊆ tcRefs τ sig := by
  simp

/-- The run of the reference: every buffer ends at the operations' results folded over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq (by decide) (by decide) defs main (fun _ => ops) main_eq (fun _ => ops_sub) m ρ

end Cert.ReferenceIdeal.Host

end
-- ==== Proof.Ref.Vals.lean ====
/-
  What each stage of the reference leaves, as a composed value of what it reads, and the whole run read at the five
  results: the output rows, the three index arrays and the loss, each a value of the eight arguments.
-/
module

public import proofs.«01_k».proof.Proof.Ref.Ops
public import Idealize.ShloMosaic.Lib.StableHlo.RunRead

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo Idealize.SL.Sem

variable {F : FTy → Type} [FloatOps F]

/-- A scalar constant. -/
abbrev kst (b : BitVec 32) : FVec F S_ .f32 := constant S_ .f32 b

/-- The projected rows: z @ W_in.T + b_in, flattened to 16384 rows of 256. -/
def inp (z : FVec F S8x2048x1408 .f32) (w : FVec F S256x1408 .f32) (b : FVec F S256 .f32) : FVec F S16384x256 .f32 :=
  shapeCast S16384x256
    (addf (Host.dotGeneral dot_S8x2048x1408_S1408x256_S8x2048x256_2_0_01_1_n_n none z (transpose S1408x256 [1, 0] w transposes_S256x1408_S1408x256_1_0))
      (broadcastInDim S8x2048x256 ![0, 1, 2] bcast_S1x1x256_S8x2048x256_0_1_2 (broadcastInDim S1x1x256 ![2] bcast_S256_S1x1x256_2 b)))
    shapeCasts_S8x2048x256_S16384x256

/-- Level 0: the squared distance of every row to every codeword. -/
def dist0 (r : FVec F S16384x256 .f32) (e : FVec F S64x256 .f32) : FVec F S16384x64 .f32 :=
  addf
    (subf
      (broadcastInDim S16384x64 ![0, 1] bcast_S16384x1_S16384x64_0_1
        (broadcastInDim S16384x1 ![0] bcast_S16384_S16384x1_0 (Host.reduceAdd (mulf r r) (kst 0x00000000#32) reducesTo_S16384x256_S16384_d1 h_S_)))
      (Host.dotGeneral dot_S16384x256_S256x64_S16384x64_1_0_0_1_n_n none
        (mulf (broadcastInDim S16384x256 ![] bcast_S_S16384x256 (kst 0x40000000#32)) r)
        (transpose S256x64 [1, 0] e transposes_S64x256_S256x64_1_0)))
    (broadcastInDim S16384x64 ![0, 1] bcast_S1x64_S16384x64_0_1
      (broadcastInDim S1x64 ![1] bcast_S64_S1x64_1 (Host.reduceAdd (mulf e e) (kst 0x00000000#32) reducesTo_S64x256_S64_d1 h_S_)))

/-- Level 0: for every row the index that the arg-min reduction picks. -/
def near0 (d : FVec F S16384x64 .f32) : IVec S16384 32 := fun j =>
  (Host.argReduce reducer_argmin_f32_i32 d (iotaInDim S16384x64 32 1) (kst 0x7F800000#32) (constantI S_ 32 0#32) reducesTo_S16384x64_S16384_d1 h_S_ j).2

/-- Level 0: the codewords at given indices, an index below zero counted from the end. -/
def pick0 (e : FVec F S64x256 .f32) (i : IVec S16384 32) : FVec F S16384x256 .f32 :=
  Host.gather gather_S64x256_S16384x1_S16384x256_1_0_n_n_0_1_1256 e
    (broadcastInDim S16384x1 ![0] bcast_S16384_S16384x1_0
      (select (cmpi .slt i (broadcastInDim S16384 ![] bcast_S_S16384 (constantI S_ 32 0#32)))
        (addi i (broadcastInDim S16384 ![] bcast_S_S16384 (constantI S_ 32 64#32))) i))

/-- Level 1: the squared distance of every row to every codeword. -/
def dist1 (r : FVec F S16384x256 .f32) (e : FVec F S128x256 .f32) : FVec F S16384x128 .f32 :=
  addf
    (subf
      (broadcastInDim S16384x128 ![0, 1] bcast_S16384x1_S16384x128_0_1
        (broadcastInDim S16384x1 ![0] bcast_S16384_S16384x1_0 (Host.reduceAdd (mulf r r) (kst 0x00000000#32) reducesTo_S16384x256_S16384_d1 h_S_)))
      (Host.dotGeneral dot_S16384x256_S256x128_S16384x128_1_0_0_1_n_n none
        (mulf (broadcastInDim S16384x256 ![] bcast_S_S16384x256 (kst 0x40000000#32)) r)
        (transpose S256x128 [1, 0] e transposes_S128x256_S256x128_1_0)))
    (broadcastInDim S16384x128 ![0, 1] bcast_S1x128_S16384x128_0_1
      (broadcastInDim S1x128 ![1] bcast_S128_S1x128_1 (Host.reduceAdd (mulf e e) (kst 0x00000000#32) reducesTo_S128x256_S128_d1 h_S_)))

/-- Level 1: for every row the index that the arg-min reduction picks. -/
def near1 (d : FVec F S16384x128 .f32) : IVec S16384 32 := fun j =>
  (Host.argReduce reducer_argmin_f32_i32 d (iotaInDim S16384x128 32 1) (kst 0x7F800000#32) (constantI S_ 32 0#32) reducesTo_S16384x128_S16384_d1 h_S_ j).2

/-- Level 1: the codewords at given indices, an index below zero counted from the end. -/
def pick1 (e : FVec F S128x256 .f32) (i : IVec S16384 32) : FVec F S16384x256 .f32 :=
  Host.gather gather_S128x256_S16384x1_S16384x256_1_0_n_n_0_1_1256 e
    (broadcastInDim S16384x1 ![0] bcast_S16384_S16384x1_0
      (select (cmpi .slt i (broadcastInDim S16384 ![] bcast_S_S16384 (constantI S_ 32 0#32)))
        (addi i (broadcastInDim S16384 ![] bcast_S_S16384 (constantI S_ 32 128#32))) i))

/-- Level 2: the squared distance of every row to every codeword. -/
def dist2 (r : FVec F S16384x256 .f32) (e : FVec F S256x256 .f32) : FVec F S16384x256 .f32 :=
  addf
    (subf
      (broadcastInDim S16384x256 ![0, 1] bcast_S16384x1_S16384x256_0_1
        (broadcastInDim S16384x1 ![0] bcast_S16384_S16384x1_0 (Host.reduceAdd (mulf r r) (kst 0x00000000#32) reducesTo_S16384x256_S16384_d1 h_S_)))
      (Host.dotGeneral dot_S16384x256_S256x256_S16384x256_1_0_0_1_n_n none
        (mulf (broadcastInDim S16384x256 ![] bcast_S_S16384x256 (kst 0x40000000#32)) r)
        (transpose S256x256 [1, 0] e transposes_S256x256_S256x256_1_0)))
    (broadcastInDim S16384x256 ![0, 1] bcast_S1x256_S16384x256_0_1
      (broadcastInDim S1x256 ![1] bcast_S256_S1x256_1 (Host.reduceAdd (mulf e e) (kst 0x00000000#32) reducesTo_S256x256_S256_d1 h_S_)))

/-- Level 2: for every row the index that the arg-min reduction picks. -/
def near2 (d : FVec F S16384x256 .f32) : IVec S16384 32 := fun j =>
  (Host.argReduce reducer_argmin_f32_i32 d (iotaInDim S16384x256 32 1) (kst 0x7F800000#32) (constantI S_ 32 0#32) reducesTo_S16384x256_S16384_d1 h_S_ j).2

/-- Level 2: the codewords at given indices, an index below zero counted from the end. -/
def pick2 (e : FVec F S256x256 .f32) (i : IVec S16384 32) : FVec F S16384x256 .f32 :=
  Host.gather gather_S256x256_S16384x1_S16384x256_1_0_n_n_0_1_1256 e
    (broadcastInDim S16384x1 ![0] bcast_S16384_S16384x1_0
      (select (cmpi .slt i (broadcastInDim S16384 ![] bcast_S_S16384 (constantI S_ 32 0#32)))
        (addi i (broadcastInDim S16384 ![] bcast_S_S16384 (constantI S_ 32 256#32))) i))

/-- A level's loss term: a quarter of the mean squared difference of the codewords and the rows. -/
def term (q r : FVec F S16384x256 .f32) : FVec F S_ .f32 :=
  mulf (kst 0x3E800000#32)
    (Host.divf (Host.reduceAdd (mulf (subf q r) (subf q r)) (kst 0x00000000#32) reducesTo_S16384x256_S_d0_1 h_S_) (kst 0x4A800000#32))

/-- The straight-through rows: the row plus the difference of its codeword and itself. -/
def thru (q r : FVec F S16384x256 .f32) : FVec F S16384x256 .f32 := addf r (subf q r)

/-- An index array, unflattened. -/
def unflat (i : IVec S16384 32) : IVec S8x2048 32 := shapeCast S8x2048 i shapeCasts_S16384_S8x2048

/-- The output: z plus the difference of the projected sum of the levels' rows and z. -/
def outp (z : FVec F S8x2048x1408 .f32) (s : FVec F S16384x256 .f32) (w : FVec F S1408x256 .f32) (b : FVec F S1408 .f32) : FVec F S8x2048x1408 .f32 :=
  addf z
    (subf
      (addf (Host.dotGeneral dot_S8x2048x256_S256x1408_S8x2048x1408_2_0_01_1_n_n none (shapeCast S8x2048x256 s shapeCasts_S16384x256_S8x2048x256)
          (transpose S256x1408 [1, 0] w transposes_S1408x256_S256x1408_1_0))
        (broadcastInDim S8x2048x1408 ![0, 1, 2] bcast_S1x1x1408_S8x2048x1408_0_1_2 (broadcastInDim S1x1x1408 ![2] bcast_S1408_S1x1x1408_2 b)))
      z)

section reads

variable (V : Valuation τ sig (Elt F))

/-- The first stage leaves the flattened projection. -/
theorem in_v5 : after (inOps (F := F)) V ((main_v5 : Ref sig .tc) : DevRef τ sig) = inp (V ((main_arg0 : Ref sig .tc) : DevRef τ sig)) (V ((main_arg1 : Ref sig .tc) : DevRef τ sig)) (V ((main_arg2 : Ref sig .tc) : DevRef τ sig)) := by
  after_reads_simp
  all_goals rfl

/-- Level 0: the stage leaves the distances. -/
theorem dist0_read : after (distOps0 (F := F)) V ((main_v19 : Ref sig .tc) : DevRef τ sig) = dist0 (V ((main_v5 : Ref sig .tc) : DevRef τ sig)) (V ((main_arg5 : Ref sig .tc) : DevRef τ sig)) := by
  after_reads_simp
  all_goals rfl

/-- Level 0: the stage leaves the picked indices. -/
theorem near0_read : after (minOps0 (F := F)) V ((main_v20 : Ref sig .tc) : DevRef τ sig) = near0 (V ((main_v19 : Ref sig .tc) : DevRef τ sig)) := by
  after_reads_simp
  all_goals rfl

/-- Level 0: the stage leaves the picked codewords. -/
theorem pick0_read : after (pickOps0 (F := F)) V ((main_v27 : Ref sig .tc) : DevRef τ sig) = pick0 (V ((main_arg5 : Ref sig .tc) : DevRef τ sig)) (V ((main_v20 : Ref sig .tc) : DevRef τ sig)) := by
  after_reads_simp
  all_goals rfl

/-- Level 0: the stage leaves the straight-through rows. -/
theorem thru0_read : after (updOps0 (F := F)) V ((main_v34 : Ref sig .tc) : DevRef τ sig) = thru (V ((main_v27 : Ref sig .tc) : DevRef τ sig)) (V ((main_v5 : Ref sig .tc) : DevRef τ sig)) := by
  after_reads_simp
  all_goals rfl

/-- Level 0: the stage leaves the unflattened indices. -/
theorem idx0_read : after (updOps0 (F := F)) V ((main_v35 : Ref sig .tc) : DevRef τ sig) = unflat (V ((main_v20 : Ref sig .tc) : DevRef τ sig)) := by
  after_reads_simp
  all_goals rfl

/-- Level 0: the stage leaves the loss so far. -/
theorem acc0_read : after (updOps0 (F := F)) V ((main_v36 : Ref sig .tc) : DevRef τ sig) = addf (kst 0x00000000#32) (term (V ((main_v27 : Ref sig .tc) : DevRef τ sig)) (V ((main_v5 : Ref sig .tc) : DevRef τ sig))) := by
  after_reads_simp
  all_goals rfl

/-- Level 0: the stage leaves the next residual. -/
theorem res0_read : after (updOps0 (F := F)) V ((main_v37 : Ref sig .tc) : DevRef τ sig) = subf (V ((main_v5 : Ref sig .tc) : DevRef τ sig)) (V ((main_v27 : Ref sig .tc) : DevRef τ sig)) := by
  after_reads_simp
  all_goals rfl

/-- Level 1: the stage leaves the distances. -/
theorem dist1_read : after (distOps1 (F := F)) V ((main_v51 : Ref sig .tc) : DevRef τ sig) = dist1 (V ((main_v37 : Ref sig .tc) : DevRef τ sig)) (V ((main_arg6 : Ref sig .tc) : DevRef τ sig)) := by
  after_reads_simp
  all_goals rfl

/-- Level 1: the stage leaves the picked indices. -/
theorem near1_read : after (minOps1 (F := F)) V ((main_v52 : Ref sig .tc) : DevRef τ sig) = near1 (V ((main_v51 : Ref sig .tc) : DevRef τ sig)) := by
  after_reads_simp
  all_goals rfl

/-- Level 1: the stage leaves the picked codewords. -/
theorem pick1_read : after (pickOps1 (F := F)) V ((main_v59 : Ref sig .tc) : DevRef τ sig) = pick1 (V ((main_arg6 : Ref sig .tc) : DevRef τ sig)) (V ((main_v52 : Ref sig .tc) : DevRef τ sig)) := by
  after_reads_simp
  all_goals rfl

/-- Level 1: the stage leaves the straight-through rows. -/
theorem thru1_read : after (updOps1 (F := F)) V ((main_v66 : Ref sig .tc) : DevRef τ sig) = thru (V ((main_v59 : Ref sig .tc) : DevRef τ sig)) (V ((main_v37 : Ref sig .tc) : DevRef τ sig)) := by
  after_reads_simp
  all_goals rfl

/-- Level 1: the stage leaves the unflattened indices. -/
theorem idx1_read : after (updOps1 (F := F)) V ((main_v67 : Ref sig .tc) : DevRef τ sig) = unflat (V ((main_v52 : Ref sig .tc) : DevRef τ sig)) := by
  after_reads_simp
  all_goals rfl

/-- Level 1: the stage leaves the loss so far. -/
theorem acc1_read : after (updOps1 (F := F)) V ((main_v68 : Ref sig .tc) : DevRef τ sig) = addf (V ((main_v36 : Ref sig .tc) : DevRef τ sig)) (term (V ((main_v59 : Ref sig .tc) : DevRef τ sig)) (V ((main_v37 : Ref sig .tc) : DevRef τ sig))) := by
  after_reads_simp
  all_goals rfl

/-- Level 1: the stage leaves the next residual. -/
theorem res1_read : after (updOps1 (F := F)) V ((main_v69 : Ref sig .tc) : DevRef τ sig) = subf (V ((main_v37 : Ref sig .tc) : DevRef τ sig)) (V ((main_v59 : Ref sig .tc) : DevRef τ sig)) := by
  after_reads_simp
  all_goals rfl

/-- Level 2: the stage leaves the distances. -/
theorem dist2_read : after (distOps2 (F := F)) V ((main_v83 : Ref sig .tc) : DevRef τ sig) = dist2 (V ((main_v69 : Ref sig .tc) : DevRef τ sig)) (V ((main_arg7 : Ref sig .tc) : DevRef τ sig)) := by
  after_reads_simp
  all_goals rfl

/-- Level 2: the stage leaves the picked indices. -/
theorem near2_read : after (minOps2 (F := F)) V ((main_v84 : Ref sig .tc) : DevRef τ sig) = near2 (V ((main_v83 : Ref sig .tc) : DevRef τ sig)) := by
  after_reads_simp
  all_goals rfl

/-- Level 2: the stage leaves the picked codewords. -/
theorem pick2_read : after (pickOps2 (F := F)) V ((main_v91 : Ref sig .tc) : DevRef τ sig) = pick2 (V ((main_arg7 : Ref sig .tc) : DevRef τ sig)) (V ((main_v84 : Ref sig .tc) : DevRef τ sig)) := by
  after_reads_simp
  all_goals rfl

/-- Level 2: the stage leaves the unflattened indices. -/
theorem idx2_read : after (updOps2 (F := F)) V ((main_v99 : Ref sig .tc) : DevRef τ sig) = unflat (V ((main_v84 : Ref sig .tc) : DevRef τ sig)) := by
  after_reads_simp
  all_goals rfl

/-- Level 2: the stage leaves the loss so far. -/
theorem acc2_read : after (updOps2 (F := F)) V ((main_v100 : Ref sig .tc) : DevRef τ sig) = addf (V ((main_v68 : Ref sig .tc) : DevRef τ sig)) (term (V ((main_v91 : Ref sig .tc) : DevRef τ sig)) (V ((main_v69 : Ref sig .tc) : DevRef τ sig))) := by
  after_reads_simp
  all_goals rfl

/-- Level 2: the stage leaves the straight-through rows. -/
theorem thru2_read : after (updOps2 (F := F)) V ((main_v98 : Ref sig .tc) : DevRef τ sig) = thru (V ((main_v91 : Ref sig .tc) : DevRef τ sig)) (V ((main_v69 : Ref sig .tc) : DevRef τ sig)) := by
  after_reads_simp
  all_goals rfl

/-- The last stage leaves the output. -/
theorem out_read : after (outOps (F := F)) V ((main_v111 : Ref sig .tc) : DevRef τ sig) = outp (V ((main_arg0 : Ref sig .tc) : DevRef τ sig)) (addf (addf (V ((main_v34 : Ref sig .tc) : DevRef τ sig)) (V ((main_v66 : Ref sig .tc) : DevRef τ sig))) (V ((main_v98 : Ref sig .tc) : DevRef τ sig))) (V ((main_arg3 : Ref sig .tc) : DevRef τ sig)) (V ((main_arg4 : Ref sig .tc) : DevRef τ sig)) := by
  after_reads_simp
  all_goals rfl

/-- The last stage leaves the loss. -/
theorem loss_read : after (outOps (F := F)) V ((main_v112 : Ref sig .tc) : DevRef τ sig) = Host.divf (V ((main_v100 : Ref sig .tc) : DevRef τ sig)) (kst 0x40400000#32) := by
  after_reads_simp
  all_goals rfl

end reads

/-! ## What each stage leaves alone -/

section keeps

variable (V : Valuation τ sig (Elt F)) {r : Ref sig .tc}

/-- The stage `inOps` leaves every buffer alone that it doesn't write. -/
theorem inOps_keep (hr : r ∉ ([main_v0, main_v1, main_v2, main_v3, main_v4, main_v5] : List (Ref sig .tc))) : after (inOps (F := F)) V (r : DevRef τ sig) = V (r : DevRef τ sig) :=
  after_unwritten _ rfl hr V

/-- The stage `distOps0` leaves every buffer alone that it doesn't write. -/
theorem distOps0_keep (hr : r ∉ ([main_v6, main_cst, main_v7, main_v8, main_cst_0, main_v9, main_v10, main_v11, main_v12, main_v13, main_v14, main_v15, main_cst_1, main_v16, main_v17, main_v18, main_v19] : List (Ref sig .tc))) : after (distOps0 (F := F)) V (r : DevRef τ sig) = V (r : DevRef τ sig) :=
  after_unwritten _ rfl hr V

/-- The stage `minOps0` leaves every buffer alone that it doesn't write. -/
theorem minOps0_keep (hr : r ∉ ([main_call0_v0, main_call0_cst, main_call0_c, main_call0_v1_0, main_v20] : List (Ref sig .tc))) : after (minOps0 (F := F)) V (r : DevRef τ sig) = V (r : DevRef τ sig) :=
  after_unwritten _ rfl hr V

/-- The stage `pickOps0` leaves every buffer alone that it doesn't write. -/
theorem pickOps0_keep (hr : r ∉ ([main_c, main_v21, main_v22, main_c_2, main_v23, main_v24, main_v25, main_v26, main_v27] : List (Ref sig .tc))) : after (pickOps0 (F := F)) V (r : DevRef τ sig) = V (r : DevRef τ sig) :=
  after_unwritten _ rfl hr V

/-- The stage `updOps0` leaves every buffer alone that it doesn't write. -/
theorem updOps0_keep (hr : r ∉ ([main_v28, main_v29, main_cst_3, main_v30, main_cst_4, main_v31, main_cst_5, main_v32, main_v33, main_v34, main_v35, main_cst_6, main_v36, main_v37] : List (Ref sig .tc))) : after (updOps0 (F := F)) V (r : DevRef τ sig) = V (r : DevRef τ sig) :=
  after_unwritten _ rfl hr V

/-- The stage `distOps1` leaves every buffer alone that it doesn't write. -/
theorem distOps1_keep (hr : r ∉ ([main_v38, main_cst_7, main_v39, main_v40, main_cst_8, main_v41, main_v42, main_v43, main_v44, main_v45, main_v46, main_v47, main_cst_9, main_v48, main_v49, main_v50, main_v51] : List (Ref sig .tc))) : after (distOps1 (F := F)) V (r : DevRef τ sig) = V (r : DevRef τ sig) :=
  after_unwritten _ rfl hr V

/-- The stage `minOps1` leaves every buffer alone that it doesn't write. -/
theorem minOps1_keep (hr : r ∉ ([main_call1_v0, main_call1_cst, main_call1_c, main_call1_v1_0, main_v52] : List (Ref sig .tc))) : after (minOps1 (F := F)) V (r : DevRef τ sig) = V (r : DevRef τ sig) :=
  after_unwritten _ rfl hr V

/-- The stage `pickOps1` leaves every buffer alone that it doesn't write. -/
theorem pickOps1_keep (hr : r ∉ ([main_c_10, main_v53, main_v54, main_c_11, main_v55, main_v56, main_v57, main_v58, main_v59] : List (Ref sig .tc))) : after (pickOps1 (F := F)) V (r : DevRef τ sig) = V (r : DevRef τ sig) :=
  after_unwritten _ rfl hr V

/-- The stage `updOps1` leaves every buffer alone that it doesn't write. -/
theorem updOps1_keep (hr : r ∉ ([main_v60, main_v61, main_cst_12, main_v62, main_cst_13, main_v63, main_cst_14, main_v64, main_v65, main_v66, main_v67, main_v68, main_v69] : List (Ref sig .tc))) : after (updOps1 (F := F)) V (r : DevRef τ sig) = V (r : DevRef τ sig) :=
  after_unwritten _ rfl hr V

/-- The stage `distOps2` leaves every buffer alone that it doesn't write. -/
theorem distOps2_keep (hr : r ∉ ([main_v70, main_cst_15, main_v71, main_v72, main_cst_16, main_v73, main_v74, main_v75, main_v76, main_v77, main_v78, main_v79, main_cst_17, main_v80, main_v81, main_v82, main_v83] : List (Ref sig .tc))) : after (distOps2 (F := F)) V (r : DevRef τ sig) = V (r : DevRef τ sig) :=
  after_unwritten _ rfl hr V

/-- The stage `minOps2` leaves every buffer alone that it doesn't write. -/
theorem minOps2_keep (hr : r ∉ ([main_call2_v0, main_call2_cst, main_call2_c, main_call2_v1_0, main_v84] : List (Ref sig .tc))) : after (minOps2 (F := F)) V (r : DevRef τ sig) = V (r : DevRef τ sig) :=
  after_unwritten _ rfl hr V

/-- The stage `pickOps2` leaves every buffer alone that it doesn't write. -/
theorem pickOps2_keep (hr : r ∉ ([main_c_18, main_v85, main_v86, main_c_19, main_v87, main_v88, main_v89, main_v90, main_v91] : List (Ref sig .tc))) : after (pickOps2 (F := F)) V (r : DevRef τ sig) = V (r : DevRef τ sig) :=
  after_unwritten _ rfl hr V

/-- The stage `updOps2` leaves every buffer alone that it doesn't write. -/
theorem updOps2_keep (hr : r ∉ ([main_v92, main_v93, main_cst_20, main_v94, main_cst_21, main_v95, main_cst_22, main_v96, main_v97, main_v98, main_v99, main_v100, main_v101] : List (Ref sig .tc))) : after (updOps2 (F := F)) V (r : DevRef τ sig) = V (r : DevRef τ sig) :=
  after_unwritten _ rfl hr V

/-- The stage `outOps` leaves every buffer alone that it doesn't write. -/
theorem outOps_keep (hr : r ∉ ([main_v102, main_v103, main_v104, main_v105, main_v106, main_v107, main_v108, main_v109, main_v110, main_v111, main_cst_23, main_v112] : List (Ref sig .tc))) : after (outOps (F := F)) V (r : DevRef τ sig) = V (r : DevRef τ sig) :=
  after_unwritten _ rfl hr V

end keeps

/-! ## The whole run -/

section whole

variable (z : FVec F S8x2048x1408 .f32) (w : FVec F S256x1408 .f32) (b : FVec F S256 .f32) (wo : FVec F S1408x256 .f32) (bo : FVec F S1408 .f32)
  (e0 : FVec F S64x256 .f32) (e1 : FVec F S128x256 .f32) (e2 : FVec F S256x256 .f32)

/-- The first level's indices; -/
def i0 : IVec S16384 32 := near0 (dist0 (inp z w b) e0)
/-- its codewords; -/
def q0 : FVec F S16384x256 .f32 := pick0 e0 (i0 z w b e0)
/-- the second level's rows, the first residual; -/
def r1 : FVec F S16384x256 .f32 := subf (inp z w b) (q0 z w b e0)
/-- its indices; -/
def i1 : IVec S16384 32 := near1 (dist1 (r1 z w b e0) e1)
/-- its codewords; -/
def q1 : FVec F S16384x256 .f32 := pick1 e1 (i1 z w b e0 e1)
/-- the third level's rows, the second residual; -/
def r2 : FVec F S16384x256 .f32 := subf (r1 z w b e0) (q1 z w b e0 e1)
/-- its indices; -/
def i2 : IVec S16384 32 := near2 (dist2 (r2 z w b e0 e1) e2)
/-- its codewords. -/
def q2 : FVec F S16384x256 .f32 := pick2 e2 (i2 z w b e0 e1 e2)

/-- The output. -/
def out : FVec F S8x2048x1408 .f32 :=
  outp z (addf (addf (thru (q0 z w b e0) (inp z w b)) (thru (q1 z w b e0 e1) (r1 z w b e0))) (thru (q2 z w b e0 e1 e2) (r2 z w b e0 e1))) wo bo

/-- The loss. -/
def loss : FVec F S_ .f32 :=
  Host.divf
    (addf (addf (addf (kst 0x00000000#32) (term (q0 z w b e0) (inp z w b))) (term (q1 z w b e0 e1) (r1 z w b e0)))
      (term (q2 z w b e0 e1 e2) (r2 z w b e0 e1)))
    (kst 0x40400000#32)

end whole

section results

variable (V : Valuation τ sig (Elt F))

/-- The whole run's output. -/
theorem v111_eq : after (ops (F := F)) V ((main_v111 : Ref sig .tc) : DevRef τ sig) = out (V ((main_arg0 : Ref sig .tc) : DevRef τ sig)) (V ((main_arg1 : Ref sig .tc) : DevRef τ sig)) (V ((main_arg2 : Ref sig .tc) : DevRef τ sig)) (V ((main_arg3 : Ref sig .tc) : DevRef τ sig)) (V ((main_arg4 : Ref sig .tc) : DevRef τ sig)) (V ((main_arg5 : Ref sig .tc) : DevRef τ sig)) (V ((main_arg6 : Ref sig .tc) : DevRef τ sig)) (V ((main_arg7 : Ref sig .tc) : DevRef τ sig)) := by
  unfold ops
  simp only [after_append]
  rw [out_read,
    updOps2_keep (r := main_arg0) _ (by decide),
    updOps2_keep (r := main_v34) _ (by decide),
    updOps2_keep (r := main_v66) _ (by decide),
    thru2_read,
    updOps2_keep (r := main_arg3) _ (by decide),
    updOps2_keep (r := main_arg4) _ (by decide),
    pickOps2_keep (r := main_arg0) _ (by decide),
    pickOps2_keep (r := main_v34) _ (by decide),
    pickOps2_keep (r := main_v66) _ (by decide),
    pick2_read,
    pickOps2_keep (r := main_v69) _ (by decide),
    pickOps2_keep (r := main_arg3) _ (by decide),
    pickOps2_keep (r := main_arg4) _ (by decide),
    minOps2_keep (r := main_arg0) _ (by decide),
    minOps2_keep (r := main_v34) _ (by decide),
    minOps2_keep (r := main_v66) _ (by decide),
    minOps2_keep (r := main_arg7) _ (by decide),
    near2_read,
    minOps2_keep (r := main_v69) _ (by decide),
    minOps2_keep (r := main_arg3) _ (by decide),
    minOps2_keep (r := main_arg4) _ (by decide),
    distOps2_keep (r := main_arg0) _ (by decide),
    distOps2_keep (r := main_v34) _ (by decide),
    distOps2_keep (r := main_v66) _ (by decide),
    distOps2_keep (r := main_arg7) _ (by decide),
    dist2_read,
    distOps2_keep (r := main_v69) _ (by decide),
    distOps2_keep (r := main_arg3) _ (by decide),
    distOps2_keep (r := main_arg4) _ (by decide),
    updOps1_keep (r := main_arg0) _ (by decide),
    updOps1_keep (r := main_v34) _ (by decide),
    thru1_read,
    updOps1_keep (r := main_arg7) _ (by decide),
    res1_read,
    updOps1_keep (r := main_arg3) _ (by decide),
    updOps1_keep (r := main_arg4) _ (by decide),
    pickOps1_keep (r := main_arg0) _ (by decide),
    pickOps1_keep (r := main_v34) _ (by decide),
    pick1_read,
    pickOps1_keep (r := main_v37) _ (by decide),
    pickOps1_keep (r := main_arg7) _ (by decide),
    pickOps1_keep (r := main_arg3) _ (by decide),
    pickOps1_keep (r := main_arg4) _ (by decide),
    minOps1_keep (r := main_arg0) _ (by decide),
    minOps1_keep (r := main_v34) _ (by decide),
    minOps1_keep (r := main_arg6) _ (by decide),
    near1_read,
    minOps1_keep (r := main_v37) _ (by decide),
    minOps1_keep (r := main_arg7) _ (by decide),
    minOps1_keep (r := main_arg3) _ (by decide),
    minOps1_keep (r := main_arg4) _ (by decide),
    distOps1_keep (r := main_arg0) _ (by decide),
    distOps1_keep (r := main_v34) _ (by decide),
    distOps1_keep (r := main_arg6) _ (by decide),
    dist1_read,
    distOps1_keep (r := main_v37) _ (by decide),
    distOps1_keep (r := main_arg7) _ (by decide),
    distOps1_keep (r := main_arg3) _ (by decide),
    distOps1_keep (r := main_arg4) _ (by decide),
    updOps0_keep (r := main_arg0) _ (by decide),
    thru0_read,
    updOps0_keep (r := main_arg6) _ (by decide),
    res0_read,
    updOps0_keep (r := main_arg7) _ (by decide),
    updOps0_keep (r := main_arg3) _ (by decide),
    updOps0_keep (r := main_arg4) _ (by decide),
    pickOps0_keep (r := main_arg0) _ (by decide),
    pick0_read,
    pickOps0_keep (r := main_v5) _ (by decide),
    pickOps0_keep (r := main_arg6) _ (by decide),
    pickOps0_keep (r := main_arg7) _ (by decide),
    pickOps0_keep (r := main_arg3) _ (by decide),
    pickOps0_keep (r := main_arg4) _ (by decide),
    minOps0_keep (r := main_arg0) _ (by decide),
    minOps0_keep (r := main_arg5) _ (by decide),
    near0_read,
    minOps0_keep (r := main_v5) _ (by decide),
    minOps0_keep (r := main_arg6) _ (by decide),
    minOps0_keep (r := main_arg7) _ (by decide),
    minOps0_keep (r := main_arg3) _ (by decide),
    minOps0_keep (r := main_arg4) _ (by decide),
    distOps0_keep (r := main_arg0) _ (by decide),
    distOps0_keep (r := main_arg5) _ (by decide),
    dist0_read,
    distOps0_keep (r := main_v5) _ (by decide),
    distOps0_keep (r := main_arg6) _ (by decide),
    distOps0_keep (r := main_arg7) _ (by decide),
    distOps0_keep (r := main_arg3) _ (by decide),
    distOps0_keep (r := main_arg4) _ (by decide),
    inOps_keep (r := main_arg0) _ (by decide),
    inOps_keep (r := main_arg5) _ (by decide),
    in_v5,
    inOps_keep (r := main_arg6) _ (by decide),
    inOps_keep (r := main_arg7) _ (by decide),
    inOps_keep (r := main_arg3) _ (by decide),
    inOps_keep (r := main_arg4) _ (by decide)]
  rfl

/-- The whole run's first index array. -/
theorem v35_eq : after (ops (F := F)) V ((main_v35 : Ref sig .tc) : DevRef τ sig) = unflat (i0 (V ((main_arg0 : Ref sig .tc) : DevRef τ sig)) (V ((main_arg1 : Ref sig .tc) : DevRef τ sig)) (V ((main_arg2 : Ref sig .tc) : DevRef τ sig)) (V ((main_arg5 : Ref sig .tc) : DevRef τ sig))) := by
  unfold ops
  simp only [after_append]
  rw [outOps_keep (r := main_v35) _ (by decide),
    updOps2_keep (r := main_v35) _ (by decide),
    pickOps2_keep (r := main_v35) _ (by decide),
    minOps2_keep (r := main_v35) _ (by decide),
    distOps2_keep (r := main_v35) _ (by decide),
    updOps1_keep (r := main_v35) _ (by decide),
    pickOps1_keep (r := main_v35) _ (by decide),
    minOps1_keep (r := main_v35) _ (by decide),
    distOps1_keep (r := main_v35) _ (by decide),
    idx0_read,
    pickOps0_keep (r := main_v20) _ (by decide),
    near0_read,
    dist0_read,
    in_v5,
    inOps_keep (r := main_arg5) _ (by decide)]
  rfl

/-- The whole run's second index array. -/
theorem v67_eq : after (ops (F := F)) V ((main_v67 : Ref sig .tc) : DevRef τ sig) = unflat (i1 (V ((main_arg0 : Ref sig .tc) : DevRef τ sig)) (V ((main_arg1 : Ref sig .tc) : DevRef τ sig)) (V ((main_arg2 : Ref sig .tc) : DevRef τ sig)) (V ((main_arg5 : Ref sig .tc) : DevRef τ sig)) (V ((main_arg6 : Ref sig .tc) : DevRef τ sig))) := by
  unfold ops
  simp only [after_append]
  rw [outOps_keep (r := main_v67) _ (by decide),
    updOps2_keep (r := main_v67) _ (by decide),
    pickOps2_keep (r := main_v67) _ (by decide),
    minOps2_keep (r := main_v67) _ (by decide),
    distOps2_keep (r := main_v67) _ (by decide),
    idx1_read,
    pickOps1_keep (r := main_v52) _ (by decide),
    near1_read,
    dist1_read,
    res0_read,
    updOps0_keep (r := main_arg6) _ (by decide),
    pickOps0_keep (r := main_v5) _ (by decide),
    pick0_read,
    pickOps0_keep (r := main_arg6) _ (by decide),
    minOps0_keep (r := main_v5) _ (by decide),
    minOps0_keep (r := main_arg5) _ (by decide),
    near0_read,
    minOps0_keep (r := main_arg6) _ (by decide),
    distOps0_keep (r := main_v5) _ (by decide),
    distOps0_keep (r := main_arg5) _ (by decide),
    dist0_read,
    distOps0_keep (r := main_arg6) _ (by decide),
    in_v5,
    inOps_keep (r := main_arg5) _ (by decide),
    inOps_keep (r := main_arg6) _ (by decide)]
  rfl

/-- The whole run's third index array. -/
theorem v99_eq : after (ops (F := F)) V ((main_v99 : Ref sig .tc) : DevRef τ sig) = unflat (i2 (V ((main_arg0 : Ref sig .tc) : DevRef τ sig)) (V ((main_arg1 : Ref sig .tc) : DevRef τ sig)) (V ((main_arg2 : Ref sig .tc) : DevRef τ sig)) (V ((main_arg5 : Ref sig .tc) : DevRef τ sig)) (V ((main_arg6 : Ref sig .tc) : DevRef τ sig)) (V ((main_arg7 : Ref sig .tc) : DevRef τ sig))) := by
  unfold ops
  simp only [after_append]
  rw [outOps_keep (r := main_v99) _ (by decide),
    idx2_read,
    pickOps2_keep (r := main_v84) _ (by decide),
    near2_read,
    dist2_read,
    res1_read,
    updOps1_keep (r := main_arg7) _ (by decide),
    pickOps1_keep (r := main_v37) _ (by decide),
    pick1_read,
    pickOps1_keep (r := main_arg7) _ (by decide),
    minOps1_keep (r := main_v37) _ (by decide),
    minOps1_keep (r := main_arg6) _ (by decide),
    near1_read,
    minOps1_keep (r := main_arg7) _ (by decide),
    distOps1_keep (r := main_v37) _ (by decide),
    distOps1_keep (r := main_arg6) _ (by decide),
    dist1_read,
    distOps1_keep (r := main_arg7) _ (by decide),
    res0_read,
    updOps0_keep (r := main_arg6) _ (by decide),
    updOps0_keep (r := main_arg7) _ (by decide),
    pickOps0_keep (r := main_v5) _ (by decide),
    pick0_read,
    pickOps0_keep (r := main_arg6) _ (by decide),
    pickOps0_keep (r := main_arg7) _ (by decide),
    minOps0_keep (r := main_v5) _ (by decide),
    minOps0_keep (r := main_arg5) _ (by decide),
    near0_read,
    minOps0_keep (r := main_arg6) _ (by decide),
    minOps0_keep (r := main_arg7) _ (by decide),
    distOps0_keep (r := main_v5) _ (by decide),
    distOps0_keep (r := main_arg5) _ (by decide),
    dist0_read,
    distOps0_keep (r := main_arg6) _ (by decide),
    distOps0_keep (r := main_arg7) _ (by decide),
    in_v5,
    inOps_keep (r := main_arg5) _ (by decide),
    inOps_keep (r := main_arg6) _ (by decide),
    inOps_keep (r := main_arg7) _ (by decide)]
  rfl

/-- The whole run's loss. -/
theorem v112_eq : after (ops (F := F)) V ((main_v112 : Ref sig .tc) : DevRef τ sig) = loss (V ((main_arg0 : Ref sig .tc) : DevRef τ sig)) (V ((main_arg1 : Ref sig .tc) : DevRef τ sig)) (V ((main_arg2 : Ref sig .tc) : DevRef τ sig)) (V ((main_arg5 : Ref sig .tc) : DevRef τ sig)) (V ((main_arg6 : Ref sig .tc) : DevRef τ sig)) (V ((main_arg7 : Ref sig .tc) : DevRef τ sig)) := by
  unfold ops
  simp only [after_append]
  rw [loss_read,
    acc2_read,
    pick2_read,
    pickOps2_keep (r := main_v69) _ (by decide),
    pickOps2_keep (r := main_v68) _ (by decide),
    minOps2_keep (r := main_arg7) _ (by decide),
    near2_read,
    minOps2_keep (r := main_v69) _ (by decide),
    minOps2_keep (r := main_v68) _ (by decide),
    distOps2_keep (r := main_arg7) _ (by decide),
    dist2_read,
    distOps2_keep (r := main_v69) _ (by decide),
    distOps2_keep (r := main_v68) _ (by decide),
    updOps1_keep (r := main_arg7) _ (by decide),
    res1_read,
    acc1_read,
    pickOps1_keep (r := main_arg7) _ (by decide),
    pickOps1_keep (r := main_v37) _ (by decide),
    pick1_read,
    pickOps1_keep (r := main_v36) _ (by decide),
    minOps1_keep (r := main_arg7) _ (by decide),
    minOps1_keep (r := main_v37) _ (by decide),
    minOps1_keep (r := main_arg6) _ (by decide),
    near1_read,
    minOps1_keep (r := main_v36) _ (by decide),
    distOps1_keep (r := main_arg7) _ (by decide),
    distOps1_keep (r := main_v37) _ (by decide),
    distOps1_keep (r := main_arg6) _ (by decide),
    dist1_read,
    distOps1_keep (r := main_v36) _ (by decide),
    updOps0_keep (r := main_arg7) _ (by decide),
    res0_read,
    updOps0_keep (r := main_arg6) _ (by decide),
    acc0_read,
    pickOps0_keep (r := main_arg7) _ (by decide),
    pickOps0_keep (r := main_v5) _ (by decide),
    pick0_read,
    pickOps0_keep (r := main_arg6) _ (by decide),
    minOps0_keep (r := main_arg7) _ (by decide),
    minOps0_keep (r := main_v5) _ (by decide),
    minOps0_keep (r := main_arg5) _ (by decide),
    near0_read,
    minOps0_keep (r := main_arg6) _ (by decide),
    distOps0_keep (r := main_arg7) _ (by decide),
    distOps0_keep (r := main_v5) _ (by decide),
    distOps0_keep (r := main_arg5) _ (by decide),
    dist0_read,
    distOps0_keep (r := main_arg6) _ (by decide),
    inOps_keep (r := main_arg7) _ (by decide),
    in_v5,
    inOps_keep (r := main_arg5) _ (by decide),
    inOps_keep (r := main_arg6) _ (by decide)]
  rfl

/-- No operation writes an argument. -/
theorem arg_eq (r : Ref sig .tc) (hr : r ∈ ([main_arg0, main_arg1, main_arg2, main_arg3, main_arg4, main_arg5, main_arg6, main_arg7] : List (Ref sig .tc))) :
    after (ops (F := F)) V (r : DevRef τ sig) = V (r : DevRef τ sig) := by
  simp only [List.mem_cons, List.not_mem_nil, or_false] at hr
  unfold ops
  rcases hr with rfl | rfl | rfl | rfl | rfl | rfl | rfl | rfl <;>
    (simp only [after_append]
     rw [outOps_keep _ (by decide), updOps2_keep _ (by decide), pickOps2_keep _ (by decide), minOps2_keep _ (by decide), distOps2_keep _ (by decide), updOps1_keep _ (by decide), pickOps1_keep _ (by decide), minOps1_keep _ (by decide), distOps1_keep _ (by decide), updOps0_keep _ (by decide), pickOps0_keep _ (by decide), minOps0_keep _ (by decide), distOps0_keep _ (by decide), inOps_keep _ (by decide)])

end results

/-- The frame of the reference: every execution ends, the arguments as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_mono (run m ρ) fun r h => ⟨fun c => ⟨(h c main_arg0).trans (arg_eq _ _ (by decide)), (h c main_arg1).trans (arg_eq _ _ (by decide)), (h c main_arg2).trans (arg_eq _ _ (by decide)), (h c main_arg3).trans (arg_eq _ _ (by decide)), (h c main_arg4).trans (arg_eq _ _ (by decide)), (h c main_arg5).trans (arg_eq _ _ (by decide)), (h c main_arg6).trans (arg_eq _ _ (by decide)), (h c main_arg7).trans (arg_eq _ _ (by decide))⟩,
    sem_eq_zero_of_no_sems (by decide) _⟩

end Cert.ReferenceIdeal.Host

end
-- ==== Proof.VQ.Math.lean ====
/-
  The mathematics of one quantization level, over the extended reals: squared distances of a row to the codewords, the
  first index of a smallest distance, and the facts that carry the two programs' spellings of it to one another.
-/
module

public import Idealize.ShloMosaic.PureOps.Ideal.Laws
public import Idealize.ShloMosaic.Lib.Pointwise.Tactic

@[expose] public section

noncomputable section

namespace Cert.VQ

open Idealize.ShloMosaic

/-! ## Finite values -/

/-- A value that is a real number. -/
def Real' (x : EReal) : Prop := ∃ a : ℝ, x = (a : EReal)

/-- A real number is real; -/
theorem Real'.coe (a : ℝ) : Real' (a : EReal) := ⟨a, rfl⟩

/-- zero is; -/
theorem Real'.zero : Real' 0 := ⟨0, rfl⟩

/-- sums are, -/
theorem Real'.add {x y : EReal} (hx : Real' x) (hy : Real' y) : Real' (x + y) := by
  obtain ⟨a, rfl⟩ := hx; obtain ⟨b, rfl⟩ := hy; exact ⟨a + b, (EReal.coe_add a b).symm⟩

/-- differences, -/
theorem Real'.sub {x y : EReal} (hx : Real' x) (hy : Real' y) : Real' (x - y) := by
  obtain ⟨a, rfl⟩ := hx; obtain ⟨b, rfl⟩ := hy; exact ⟨a - b, (EReal.coe_sub a b).symm⟩

/-- products -/
theorem Real'.mul {x y : EReal} (hx : Real' x) (hy : Real' y) : Real' (x * y) := by
  obtain ⟨a, rfl⟩ := hx; obtain ⟨b, rfl⟩ := hy; exact ⟨a * b, (EReal.coe_mul a b).symm⟩

/-- A finite sum of reals, taken in the extended reals, is the sum of the reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- and finite sums of reals. -/
theorem Real'.sum {ι : Type*} (s : Finset ι) {f : ι → EReal} (h : ∀ i, Real' (f i)) : Real' (∑ i ∈ s, f i) := by
  choose g hg using h
  exact ⟨∑ i ∈ s, g i, by rw [← coe_sum]; exact Finset.sum_congr rfl fun i _ => hg i⟩

/-- A real factor moves out of a finite sum of reals. -/
theorem mul_sum_real {ι : Type*} (s : Finset ι) (c : ℝ) {f : ι → EReal} (h : ∀ i, Real' (f i)) :
    (c : EReal) * ∑ i ∈ s, f i = ∑ i ∈ s, (c : EReal) * f i := by
  choose g hg using h
  simp only [hg, coe_sum, ← EReal.coe_mul, Finset.mul_sum]

/-- A real number added to a difference with itself gives back the other side. -/
theorem add_sub_real {z : EReal} (hz : Real' z) (x : EReal) : z + (x - z) = x := by
  obtain ⟨a, rfl⟩ := hz
  induction x with
  | bot => simp
  | top => simp
  | coe x => rw [← EReal.coe_sub, ← EReal.coe_add]; congr 1; ring

/-- A real less itself is zero. -/
theorem sub_self_real {z : EReal} (hz : Real' z) : z - z = 0 := by
  obtain ⟨a, rfl⟩ := hz
  rw [← EReal.coe_sub, sub_self]; rfl

/-! ## The first smallest entry -/

/-- `j` is the first index of a smallest entry of `f`. -/
def First {k : ℕ} (f : Fin k → EReal) (j : Fin k) : Prop := (∀ i, f j ≤ f i) ∧ ∀ i, i < j → f j < f i

/-- There is only one first index of a smallest entry, -/
theorem First.unique {k : ℕ} {f : Fin k → EReal} {i j : Fin k} (hi : First f i) (hj : First f j) : i = j := by
  rcases lt_trichotomy i j with h | h | h
  · exact absurd (hi.1 j) (not_le.mpr (hj.2 i h))
  · exact h
  · exact absurd (hj.1 i) (not_le.mpr (hi.2 j h))

/-- and there is one. -/
theorem exists_first {k : ℕ} [NeZero k] (f : Fin k → EReal) : ∃ j, First f j := by
  classical
  obtain ⟨m, -, hm⟩ := Finset.exists_min_image Finset.univ f ⟨0, Finset.mem_univ _⟩
  have hne : (Finset.univ.filter fun i => f i = f m).Nonempty := ⟨m, by simp⟩
  refine ⟨(Finset.univ.filter fun i => f i = f m).min' hne, ?_, ?_⟩
  · intro i
    have := Finset.min'_mem _ hne
    rw [Finset.mem_filter] at this
    rw [this.2]
    exact hm i (Finset.mem_univ _)
  · intro i hi
    have hj := Finset.min'_mem _ hne
    rw [Finset.mem_filter] at hj
    rw [hj.2]
    refine lt_of_le_of_ne (hm i (Finset.mem_univ _)) fun h => ?_
    exact absurd (Finset.min'_le _ i (by simp [h])) (not_le.mpr hi)

/-- The first index of a smallest entry. -/
def first {k : ℕ} [NeZero k] (f : Fin k → EReal) : Fin k := (exists_first f).choose

/-- `first f` is a first index of a smallest entry, -/
theorem first_spec {k : ℕ} [NeZero k] (f : Fin k → EReal) : First f (first f) := (exists_first f).choose_spec

/-- and the only one. -/
theorem first_eq {k : ℕ} [NeZero k] {f : Fin k → EReal} {j : Fin k} (h : First f j) : first f = j := (first_spec f).unique h

/-- The smallest entry, from above every entry, is the entry at its first index. -/
theorem fold_min_eq {k : ℕ} [NeZero k] (f : Fin k → EReal) : Finset.univ.fold min (⊤ : EReal) f = f (first f) := by
  apply le_antisymm
  · rw [Finset.fold_min_le]
    exact Or.inr ⟨first f, Finset.mem_univ _, le_rfl⟩
  · rw [Finset.le_fold_min]
    exact ⟨le_top, fun i _ => (first_spec f).1 i⟩

/-- The smallest index among those of a smallest entry, every other index replaced by `K`. -/
theorem fold_first_eq {k : ℕ} [NeZero k] (f : Fin k → EReal) (K : EReal) (hK : ∀ j : Fin k, ((j.val : ℝ) : EReal) ≤ K) :
    Finset.univ.fold min (⊤ : EReal) (fun j : Fin k => if f j = f (first f) then ((j.val : ℝ) : EReal) else K)
      = (((first f).val : ℝ) : EReal) := by
  apply le_antisymm
  · rw [Finset.fold_min_le]
    exact Or.inr ⟨first f, Finset.mem_univ _, by simp⟩
  · rw [Finset.le_fold_min]
    refine ⟨le_top, fun i _ => ?_⟩
    split
    · rename_i h
      rw [EReal.coe_le_coe_iff, Nat.cast_le]
      by_contra hlt
      exact absurd h (ne_of_gt ((first_spec f).2 i (by omega)))
    · exact hK _

/-! ## One level -/

/-- The squared distance of a row to codeword `j`, expanded. -/
def dist {k : ℕ} (E : Fin k → Fin 256 → EReal) (r : Fin 256 → EReal) (j : Fin k) : EReal :=
  (∑ d, r d * r d - 2 * ∑ d, r d * E j d) + ∑ d, E j d * E j d

/-- The index of the codeword taken for a row. -/
def idx {k : ℕ} [NeZero k] (E : Fin k → Fin 256 → EReal) (r : Fin 256 → EReal) : Fin k := first (dist E r)

/-- The codeword taken for a row. -/
def cw {k : ℕ} [NeZero k] (E : Fin k → Fin 256 → EReal) (r : Fin 256 → EReal) : Fin 256 → EReal := E (idx E r)

/-- What is left of a row. -/
def res {k : ℕ} [NeZero k] (E : Fin k → Fin 256 → EReal) (r : Fin 256 → EReal) : Fin 256 → EReal := fun d => r d - cw E r d

/-- The squared difference of the codeword and the row. -/
def sq {k : ℕ} [NeZero k] (E : Fin k → Fin 256 → EReal) (r : Fin 256 → EReal) : EReal :=
  ∑ d, (cw E r d - r d) * (cw E r d - r d)

section real

variable {k : ℕ} [NeZero k] {E : Fin k → Fin 256 → EReal} {r : Fin 256 → EReal}

/-- Codewords of a real table are real; -/
theorem cw_real (hE : ∀ j d, Real' (E j d)) (d : Fin 256) : Real' (cw E r d) := hE _ d

/-- so is what they leave of a real row, -/
theorem res_real (hE : ∀ j d, Real' (E j d)) (hr : ∀ d, Real' (r d)) (d : Fin 256) : Real' (res E r d) :=
  (hr d).sub (cw_real hE d)

/-- and the squared difference. -/
theorem sq_real (hE : ∀ j d, Real' (E j d)) (hr : ∀ d, Real' (r d)) : Real' (sq E r) :=
  Real'.sum _ fun d => ((cw_real hE d).sub (hr d)).mul ((cw_real hE d).sub (hr d))

end real

/-- Doubling the row doubles its product with a codeword. -/
theorem two_mul_sum {r e : Fin 256 → EReal} (hr : ∀ d, Real' (r d)) (he : ∀ d, Real' (e d)) :
    ∑ d, (2 * r d) * e d = 2 * ∑ d, r d * e d := by
  have h := mul_sum_real Finset.univ 2 (f := fun d => r d * e d) fun d => (hr d).mul (he d)
  have h2 : ((2 : ℝ) : EReal) = 2 := rfl
  rw [h2] at h
  rw [h]
  exact Finset.sum_congr rfl fun d _ => mul_assoc _ _ _

/-- A sum over three equal stretches. -/
theorem sum_three {k n : ℕ} (h : n = k + (k + k)) (f : Fin n → EReal) :
    ∑ x, f x = ∑ x : Fin k, f ⟨x.val, by omega⟩
      + (∑ x : Fin k, f ⟨k + x.val, by omega⟩ + ∑ x : Fin k, f ⟨k + (k + x.val), by omega⟩) := by
  subst h
  rw [Fin.sum_univ_add, Fin.sum_univ_add]
  rfl

/-- A one-hot sum over the codewords picks one; the two remainders of a codeword's split vanish. -/
theorem onehot_sum {k : ℕ} (j₀ : Fin k) (e : Fin k → EReal) (he : ∀ j, Real' (e j)) :
    ∑ j, (if j = j₀ then (1 : EReal) else 0) * e j
      + (∑ j, (if j = j₀ then (1 : EReal) else 0) * (e j - e j)
        + ∑ j, (if j = j₀ then (1 : EReal) else 0) * ((e j - e j) - (e j - e j))) = e j₀ := by
  have h0 : ∀ j, e j - e j = 0 := fun j => sub_self_real (he j)
  simp [h0]

end Cert.VQ

end
-- ==== Proof.VQ.Words.lean ====
/-
  The constants of the two programs and the conversions between index words and reals, as values of the extended reals.
-/
module

public import Idealize.ShloMosaic.Lib.Pointwise

@[expose] public section

noncomputable section

namespace Cert.VQ

open Idealize.ShloMosaic

/-- The word of plus infinity. -/
theorem ofBits_top : Ideal.ofBits .f32 0x7F800000#32 = ⊤ := by simp [Ideal.ofBits, Ideal.ieee, -EReal.coe_mul]

/-- The word of 2. -/
theorem ofBits_two : Ideal.ofBits .f32 0x40000000#32 = 2 := by
  rw [show (2 : EReal) = ((2 : ℝ) : EReal) from rfl]
  simp [Ideal.ofBits, Ideal.ieee, -EReal.coe_mul]
  norm_num

/-- The word of 64. -/
theorem ofBits_64 : Ideal.ofBits .f32 0x42800000#32 = ((64 : ℝ) : EReal) := by
  simp [Ideal.ofBits, Ideal.ieee, -EReal.coe_mul]
  norm_num

/-- The word of 128. -/
theorem ofBits_128 : Ideal.ofBits .f32 0x43000000#32 = ((128 : ℝ) : EReal) := by
  simp [Ideal.ofBits, Ideal.ieee, -EReal.coe_mul]
  norm_num

/-- The word of 256. -/
theorem ofBits_256 : Ideal.ofBits .f32 0x43800000#32 = ((256 : ℝ) : EReal) := by
  simp [Ideal.ofBits, Ideal.ieee, -EReal.coe_mul]
  norm_num

/-- The word of 1/4. -/
theorem ofBits_quarter : Ideal.ofBits .f32 0x3E800000#32 = ((1 / 4 : ℝ) : EReal) := by
  simp [Ideal.ofBits, Ideal.ieee, -EReal.coe_mul]
  norm_num

/-- The word of 3. -/
theorem ofBits_three : Ideal.ofBits .f32 0x40400000#32 = ((3 : ℝ) : EReal) := by
  simp [Ideal.ofBits, Ideal.ieee, -EReal.coe_mul]
  norm_num

/-- The word of 4194304 = 16384 * 256. -/
theorem ofBits_count : Ideal.ofBits .f32 0x4A800000#32 = ((4194304 : ℝ) : EReal) := by
  simp [Ideal.ofBits, Ideal.ieee, -EReal.coe_mul]
  norm_num

/-- A small natural as a word, read signed. -/
theorem toInt_small {n : ℕ} (h : n < 1024) : (BitVec.ofNat 32 n).toInt = (n : ℤ) := by
  rw [BitVec.toInt_eq_toNat_of_lt] <;> simp only [BitVec.toNat_ofNat] <;> omega

/-- A small index word as a float. -/
theorem sitofp_small {n : ℕ} (h : n < 1024) : FloatOps.sitofp (F := Ideal) .f32 (BitVec.ofNat 32 n) = ((n : ℝ) : EReal) := by
  show (((BitVec.ofNat 32 n).toInt : ℝ) : EReal) = _
  rw [toInt_small h]; simp

/-- A condition word, widened and converted, is one or zero. -/
theorem sitofp_bit (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p <;> simp [h]

/-- A small natural as a float, converted to a word. -/
theorem fptosi_small {n : ℕ} (h : n < 1024) : FloatOps.fptosi (F := Ideal) (φ := .f32) 32 ((n : ℝ) : EReal) = BitVec.ofNat 32 n := by
  show BitVec.ofInt 32 (max (-(2 ^ 31 : Nat) : ℤ) (min ((2 ^ 31 : Nat) - 1 : ℤ) (if 0 ≤ (n : ℝ) then ⌊(n : ℝ)⌋ else ⌈(n : ℝ)⌉))) = _
  rw [if_pos (Nat.cast_nonneg n), Int.floor_natCast, min_eq_right (by omega), max_eq_right (by omega), BitVec.ofInt_natCast]

/-- Equality of two values as a condition word. -/
theorem oeq_bit (a b : EReal) : FloatOps.cmpf (F := Ideal) (φ := .f32) .oeq a b = BitVec.ofBool (decide (a = b)) := rfl

end Cert.VQ

end
-- ==== Proof.VQ.Level.lean ====
/-
  One quantization level as the kernel computes it on a block of 1024 rows, read at an index: the distances, the index taken,
  the codeword taken and the sum of the squared differences — for the three codebooks.
-/
module

public import proofs.«01_k».proof.Proof.VQ.Math
public import proofs.«01_k».proof.Proof.Gen.KernelIdeal.Skeleton
public import proofs.«01_k».proof.Proof.VQ.Words

@[expose] public section

set_option maxRecDepth 16384

noncomputable section

namespace Cert.VQ.Level

open Cert.KernelIdeal Cert.KernelIdeal.Gen
open Idealize.ShloMosaic

/-- The rows of a matrix. -/
abbrev rows {a b : ℕ} (x : FVec Ideal (⟨2, ![a, b]⟩ : Shape) .f32) (i : Fin a) (j : Fin b) : EReal := x (ix2 i j)

/-! ## Codebook 0: 64 codewords -/

/-- The distances of the rows to the codewords. -/
def kd0 (r : FVec Ideal S1024x256 .f32) (e : FVec Ideal S64x256 .f32) : FVec Ideal S1024x64 .f32 :=
  addf
    (subf
      (broadcastTo S1024x64 (shapeCast S1024x1 (multiReduction .add [1] S1024 (mulf r r) 0x00000000#32 reduces_S1024x256_S1024 (.inl rfl) rfl) shapeCasts_S1024_S1024x1) broadcasts_S1024x1_S1024x64)
      (mulf (broadcast S1024x64 (Scalar.ofBits .f32 0x40000000#32)) (matmul dot_S1024x256_S64x256_S1024x64_1_1_0_0_n_n none r e (constant S1024x64 .f32 0x00000000#32))))
    (broadcastTo S1024x64 (shapeCast S1x64 (multiReduction .add [1] S64 (mulf e e) 0x00000000#32 reduces_S64x256_S64 (.inl rfl) rfl) shapeCasts_S64_S1x64) broadcasts_S1x64_S1024x64)

/-- The column numbers. -/
def ki0 : FVec Ideal S1024x64 .f32 := sitofp .f32 (iota .tc S1024x64 32 [1] iota_S1024x64_d1_w32)

/-- The rows' smallest entries. -/
def kn0 (d : FVec Ideal S1024x64 .f32) : FVec Ideal S1024x1 .f32 :=
  shapeCast S1024x1 (multiReduction .minimumf [1] S1024 d 0x7F800000#32 reduces_S1024x64_S1024 (.inl rfl) rfl) shapeCasts_S1024_S1024x1

/-- The smallest column number at which a row's entry is its smallest, as a float. -/
def kf0 (d : FVec Ideal S1024x64 .f32) : FVec Ideal S1024x1 .f32 :=
  kn0 (select (cmpf .oeq d (broadcastTo S1024x64 (kn0 d) broadcasts_S1024x1_S1024x64)) ki0 (broadcast S1024x64 (Scalar.ofBits .f32 0x42800000#32)))

/-- One at the column of the given number, zero elsewhere. -/
def ko0 (i : FVec Ideal S1024x1 .f32) : FVec Ideal S1024x64 .bf16 :=
  truncf .bf16 (sitofp .f32 (extui 32 (cmpf .oeq ki0 (broadcastTo S1024x64 i broadcasts_S1024x1_S1024x64)) natLt_1_32)) bitsLt_bf16_f32

/-- The product of the indicator, thrice, with the codebook's three parts. -/
def kz0 (o : FVec Ideal S1024x64 .bf16) (e : FVec Ideal S64x256 .f32) : FVec Ideal S1024x256 .f32 :=
  matmul dot_S1024x192_S192x256_S1024x256_1_0_0_1_n_n none
    (concatenate S1024x192 1 [⟨S1024x64, o⟩, ⟨S1024x64, o⟩, ⟨S1024x64, o⟩] concatenates_S1024x64_S1024x64_S1024x64_S1024x192_d1)
    (concatenate S192x256 0 [⟨S64x256, truncf .bf16 (extf .f32 (truncf .bf16 e)) bitsLt_bf16_f32⟩,
      ⟨S64x256, truncf .bf16 (extf .f32 (truncf .bf16 (subf e (extf .f32 (truncf .bf16 e))))) bitsLt_bf16_f32⟩,
      ⟨S64x256, truncf .bf16 (subf (subf e (extf .f32 (truncf .bf16 e))) (extf .f32 (truncf .bf16 (subf e (extf .f32 (truncf .bf16 e)))))) bitsLt_bf16_f32⟩]
      concatenates_S64x256_S64x256_S64x256_S192x256_d0)
    (constant S1024x256 .f32 0x00000000#32)

/-- Level 0: a distance, at a row and a codeword. -/
theorem kd0_apply (r : FVec Ideal S1024x256 .f32) (e : FVec Ideal S64x256 .f32) (p : Fin 1024) (j : Fin 64) :
    kd0 r e (ix2 p j) = dist (rows e) (rows r p) j := by
  pointwise [kd0, dist]
  rw [ofBits_two]

/-- Level 0: the smallest distance of a row. -/
theorem kn0_apply (d : FVec Ideal S1024x64 .f32) (p : Fin 1024) : kn0 d (ix2 p 0) = d (ix2 p (first (rows d p))) := by
  pointwise [kn0]
  rw [ofBits_top]
  exact fold_min_eq (rows d p)

/-- Level 0: the codeword numbers as reals. -/
theorem ki0_apply (p : Fin 1024) (j : Fin 64) : ki0 (ix2 p j) = ((j.val : ℝ) : EReal) := by
  pointwise [ki0]
  exact sitofp_small (by omega)

/-- The index the kernel takes, as a float. -/
theorem kf0_apply (d : FVec Ideal S1024x64 .f32) (p : Fin 1024) : kf0 d (ix2 p 0) = (((first (rows d p)).val : ℝ) : EReal) := by
  have h : ∀ x : Fin 64, Scalar.select (FloatOps.cmpf (F := Ideal) (φ := .f32) .oeq (d (ix2 p x)) (kn0 d (ix2 p 0))) (ki0 (ix2 p x)) (Ideal.ofBits .f32 0x42800000#32)
      = if rows d p x = rows d p (first (rows d p)) then ((x.val : ℝ) : EReal) else ((64 : ℝ) : EReal) := by
    intro x
    rw [kn0_apply, ki0_apply, oeq_bit, ofBits_64]
    by_cases hx : d (ix2 p x) = d (ix2 p (first (rows d p)))
    · rw [if_pos (show rows d p x = _ from hx), decide_eq_true hx]; rfl
    · rw [if_neg (show ¬ rows d p x = _ from hx), decide_eq_false hx]; rfl
  rw [← fold_first_eq (rows d p) ((64 : ℝ) : EReal) (fun j => by rw [EReal.coe_le_coe_iff]; exact_mod_cast j.isLt.le)]
  unfold kf0
  rw [show ∀ g, kn0 g (ix2 p 0) = Finset.univ.fold min ⊤ fun x => g (ix2 p x) from fun g => by pointwise [kn0]; rw [ofBits_top]]
  refine congrArg (fun g => Finset.univ.fold min ⊤ g) (funext fun x => ?_)
  rw [← h x]
  pointwise

/-- The indicator of the index taken. -/
theorem ko0_apply (i : FVec Ideal S1024x1 .f32) (p : Fin 1024) (j₀ : Fin 64) (hi : i (ix2 p 0) = ((j₀.val : ℝ) : EReal)) (j : Fin 64) :
    ko0 i (ix2 p j) = if j = j₀ then (1 : EReal) else 0 := by
  pointwise [ko0]
  rw [ki0_apply, hi]
  refine (sitofp_bit _).trans ?_
  have : (((j.val : ℝ) : EReal) = ((j₀.val : ℝ) : EReal)) ↔ j = j₀ := by
    rw [EReal.coe_eq_coe_iff, Nat.cast_inj, Fin.val_inj]
  simp only [this]

/-- The product with the indicator is the codeword taken. -/
theorem kz0_apply (o : FVec Ideal S1024x64 .bf16) (e : FVec Ideal S64x256 .f32) (he : ∀ j d, Real' (rows e j d)) (p : Fin 1024) (j₀ : Fin 64)
    (ho : ∀ j, o (ix2 p j) = if j = j₀ then (1 : EReal) else 0) (d : Fin 256) : kz0 o e (ix2 p d) = rows e j₀ d := by
  rw [← onehot_sum j₀ (fun j => rows e j d) fun j => he j d]
  simp only [← ho]
  unfold kz0
  pointwise
  rw [sum_three (k := 64) rfl]
  refine congrArg₂ _ (Finset.sum_congr rfl fun x _ => ?_) (congrArg₂ _ (Finset.sum_congr rfl fun x _ => ?_) (Finset.sum_congr rfl fun x _ => ?_))
  · simp
  · simp
  · simp

/-- The codewords the kernel takes for a block of rows. -/
def kq0 (r : FVec Ideal S1024x256 .f32) (e : FVec Ideal S64x256 .f32) : FVec Ideal S1024x256 .f32 := kz0 (ko0 (kf0 (kd0 r e))) e

/-- Level 0: a row of distances. -/
theorem rows_kd0 (r : FVec Ideal S1024x256 .f32) (e : FVec Ideal S64x256 .f32) (p : Fin 1024) : rows (kd0 r e) p = dist (rows e) (rows r p) :=
  funext fun j => kd0_apply r e p j

/-- The index float of a row is its level's index. -/
theorem kfd0_apply (r : FVec Ideal S1024x256 .f32) (e : FVec Ideal S64x256 .f32) (p : Fin 1024) :
    kf0 (kd0 r e) (ix2 p 0) = (((idx (rows e) (rows r p)).val : ℝ) : EReal) := by
  rw [kf0_apply, rows_kd0]; rfl

/-- Level 0: the codeword that the one-hot product gives. -/
theorem kq0_apply (r : FVec Ideal S1024x256 .f32) (e : FVec Ideal S64x256 .f32) (he : ∀ j d, Real' (rows e j d)) (p : Fin 1024) (d : Fin 256) :
    kq0 r e (ix2 p d) = cw (rows e) (rows r p) d :=
  kz0_apply _ e he p _ (ko0_apply _ p _ (kfd0_apply r e p)) d

/-! ## Codebook 1: 128 codewords -/

/-- The distances of the rows to the codewords. -/
def kd1 (r : FVec Ideal S1024x256 .f32) (e : FVec Ideal S128x256 .f32) : FVec Ideal S1024x128 .f32 :=
  addf
    (subf
      (broadcastTo S1024x128 (shapeCast S1024x1 (multiReduction .add [1] S1024 (mulf r r) 0x00000000#32 reduces_S1024x256_S1024 (.inl rfl) rfl) shapeCasts_S1024_S1024x1) broadcasts_S1024x1_S1024x128)
      (mulf (broadcast S1024x128 (Scalar.ofBits .f32 0x40000000#32)) (matmul dot_S1024x256_S128x256_S1024x128_1_1_0_0_n_n none r e (constant S1024x128 .f32 0x00000000#32))))
    (broadcastTo S1024x128 (shapeCast S1x128 (multiReduction .add [1] S128 (mulf e e) 0x00000000#32 reduces_S128x256_S128 (.inl rfl) rfl) shapeCasts_S128_S1x128) broadcasts_S1x128_S1024x128)

/-- The column numbers. -/
def ki1 : FVec Ideal S1024x128 .f32 := sitofp .f32 (iota .tc S1024x128 32 [1] iota_S1024x128_d1_w32)

/-- The rows' smallest entries. -/
def kn1 (d : FVec Ideal S1024x128 .f32) : FVec Ideal S1024x1 .f32 :=
  shapeCast S1024x1 (multiReduction .minimumf [1] S1024 d 0x7F800000#32 reduces_S1024x128_S1024 (.inl rfl) rfl) shapeCasts_S1024_S1024x1

/-- The smallest column number at which a row's entry is its smallest, as a float. -/
def kf1 (d : FVec Ideal S1024x128 .f32) : FVec Ideal S1024x1 .f32 :=
  kn1 (select (cmpf .oeq d (broadcastTo S1024x128 (kn1 d) broadcasts_S1024x1_S1024x128)) ki1 (broadcast S1024x128 (Scalar.ofBits .f32 0x43000000#32)))

/-- One at the column of the given number, zero elsewhere. -/
def ko1 (i : FVec Ideal S1024x1 .f32) : FVec Ideal S1024x128 .bf16 :=
  truncf .bf16 (sitofp .f32 (extui 32 (cmpf .oeq ki1 (broadcastTo S1024x128 i broadcasts_S1024x1_S1024x128)) natLt_1_32)) bitsLt_bf16_f32

/-- The product of the indicator, thrice, with the codebook's three parts. -/
def kz1 (o : FVec Ideal S1024x128 .bf16) (e : FVec Ideal S128x256 .f32) : FVec Ideal S1024x256 .f32 :=
  matmul dot_S1024x384_S384x256_S1024x256_1_0_0_1_n_n none
    (concatenate S1024x384 1 [⟨S1024x128, o⟩, ⟨S1024x128, o⟩, ⟨S1024x128, o⟩] concatenates_S1024x128_S1024x128_S1024x128_S1024x384_d1)
    (concatenate S384x256 0 [⟨S128x256, truncf .bf16 (extf .f32 (truncf .bf16 e)) bitsLt_bf16_f32⟩,
      ⟨S128x256, truncf .bf16 (extf .f32 (truncf .bf16 (subf e (extf .f32 (truncf .bf16 e))))) bitsLt_bf16_f32⟩,
      ⟨S128x256, truncf .bf16 (subf (subf e (extf .f32 (truncf .bf16 e))) (extf .f32 (truncf .bf16 (subf e (extf .f32 (truncf .bf16 e)))))) bitsLt_bf16_f32⟩]
      concatenates_S128x256_S128x256_S128x256_S384x256_d0)
    (constant S1024x256 .f32 0x00000000#32)

/-- Level 1: a distance, at a row and a codeword. -/
theorem kd1_apply (r : FVec Ideal S1024x256 .f32) (e : FVec Ideal S128x256 .f32) (p : Fin 1024) (j : Fin 128) :
    kd1 r e (ix2 p j) = dist (rows e) (rows r p) j := by
  pointwise [kd1, dist]
  rw [ofBits_two]

/-- Level 1: the smallest distance of a row. -/
theorem kn1_apply (d : FVec Ideal S1024x128 .f32) (p : Fin 1024) : kn1 d (ix2 p 0) = d (ix2 p (first (rows d p))) := by
  pointwise [kn1]
  rw [ofBits_top]
  exact fold_min_eq (rows d p)

/-- Level 1: the codeword numbers as reals. -/
theorem ki1_apply (p : Fin 1024) (j : Fin 128) : ki1 (ix2 p j) = ((j.val : ℝ) : EReal) := by
  pointwise [ki1]
  exact sitofp_small (by omega)

/-- The index the kernel takes, as a float. -/
theorem kf1_apply (d : FVec Ideal S1024x128 .f32) (p : Fin 1024) : kf1 d (ix2 p 0) = (((first (rows d p)).val : ℝ) : EReal) := by
  have h : ∀ x : Fin 128, Scalar.select (FloatOps.cmpf (F := Ideal) (φ := .f32) .oeq (d (ix2 p x)) (kn1 d (ix2 p 0))) (ki1 (ix2 p x)) (Ideal.ofBits .f32 0x43000000#32)
      = if rows d p x = rows d p (first (rows d p)) then ((x.val : ℝ) : EReal) else ((128 : ℝ) : EReal) := by
    intro x
    rw [kn1_apply, ki1_apply, oeq_bit, ofBits_128]
    by_cases hx : d (ix2 p x) = d (ix2 p (first (rows d p)))
    · rw [if_pos (show rows d p x = _ from hx), decide_eq_true hx]; rfl
    · rw [if_neg (show ¬ rows d p x = _ from hx), decide_eq_false hx]; rfl
  rw [← fold_first_eq (rows d p) ((128 : ℝ) : EReal) (fun j => by rw [EReal.coe_le_coe_iff]; exact_mod_cast j.isLt.le)]
  unfold kf1
  rw [show ∀ g, kn1 g (ix2 p 0) = Finset.univ.fold min ⊤ fun x => g (ix2 p x) from fun g => by pointwise [kn1]; rw [ofBits_top]]
  refine congrArg (fun g => Finset.univ.fold min ⊤ g) (funext fun x => ?_)
  rw [← h x]
  pointwise

/-- The indicator of the index taken. -/
theorem ko1_apply (i : FVec Ideal S1024x1 .f32) (p : Fin 1024) (j₀ : Fin 128) (hi : i (ix2 p 0) = ((j₀.val : ℝ) : EReal)) (j : Fin 128) :
    ko1 i (ix2 p j) = if j = j₀ then (1 : EReal) else 0 := by
  pointwise [ko1]
  rw [ki1_apply, hi]
  refine (sitofp_bit _).trans ?_
  have : (((j.val : ℝ) : EReal) = ((j₀.val : ℝ) : EReal)) ↔ j = j₀ := by
    rw [EReal.coe_eq_coe_iff, Nat.cast_inj, Fin.val_inj]
  simp only [this]

/-- The product with the indicator is the codeword taken. -/
theorem kz1_apply (o : FVec Ideal S1024x128 .bf16) (e : FVec Ideal S128x256 .f32) (he : ∀ j d, Real' (rows e j d)) (p : Fin 1024) (j₀ : Fin 128)
    (ho : ∀ j, o (ix2 p j) = if j = j₀ then (1 : EReal) else 0) (d : Fin 256) : kz1 o e (ix2 p d) = rows e j₀ d := by
  rw [← onehot_sum j₀ (fun j => rows e j d) fun j => he j d]
  simp only [← ho]
  unfold kz1
  pointwise
  rw [sum_three (k := 128) rfl]
  refine congrArg₂ _ (Finset.sum_congr rfl fun x _ => ?_) (congrArg₂ _ (Finset.sum_congr rfl fun x _ => ?_) (Finset.sum_congr rfl fun x _ => ?_))
  · simp
  · simp
  · simp

/-- The codewords the kernel takes for a block of rows. -/
def kq1 (r : FVec Ideal S1024x256 .f32) (e : FVec Ideal S128x256 .f32) : FVec Ideal S1024x256 .f32 := kz1 (ko1 (kf1 (kd1 r e))) e

/-- Level 1: a row of distances. -/
theorem rows_kd1 (r : FVec Ideal S1024x256 .f32) (e : FVec Ideal S128x256 .f32) (p : Fin 1024) : rows (kd1 r e) p = dist (rows e) (rows r p) :=
  funext fun j => kd1_apply r e p j

/-- The index float of a row is its level's index. -/
theorem kfd1_apply (r : FVec Ideal S1024x256 .f32) (e : FVec Ideal S128x256 .f32) (p : Fin 1024) :
    kf1 (kd1 r e) (ix2 p 0) = (((idx (rows e) (rows r p)).val : ℝ) : EReal) := by
  rw [kf1_apply, rows_kd1]; rfl

/-- Level 1: the codeword that the one-hot product gives. -/
theorem kq1_apply (r : FVec Ideal S1024x256 .f32) (e : FVec Ideal S128x256 .f32) (he : ∀ j d, Real' (rows e j d)) (p : Fin 1024) (d : Fin 256) :
    kq1 r e (ix2 p d) = cw (rows e) (rows r p) d :=
  kz1_apply _ e he p _ (ko1_apply _ p _ (kfd1_apply r e p)) d

/-! ## Codebook 2: 256 codewords -/

/-- The distances of the rows to the codewords. -/
def kd2 (r : FVec Ideal S1024x256 .f32) (e : FVec Ideal S256x256 .f32) : FVec Ideal S1024x256 .f32 :=
  addf
    (subf
      (broadcastTo S1024x256 (shapeCast S1024x1 (multiReduction .add [1] S1024 (mulf r r) 0x00000000#32 reduces_S1024x256_S1024 (.inl rfl) rfl) shapeCasts_S1024_S1024x1) broadcasts_S1024x1_S1024x256)
      (mulf (broadcast S1024x256 (Scalar.ofBits .f32 0x40000000#32)) (matmul dot_S1024x256_S256x256_S1024x256_1_1_0_0_n_n none r e (constant S1024x256 .f32 0x00000000#32))))
    (broadcastTo S1024x256 (shapeCast S1x256 (multiReduction .add [1] S256 (mulf e e) 0x00000000#32 reduces_S256x256_S256 (.inl rfl) rfl) shapeCasts_S256_S1x256) broadcasts_S1x256_S1024x256)

/-- The column numbers. -/
def ki2 : FVec Ideal S1024x256 .f32 := sitofp .f32 (iota .tc S1024x256 32 [1] iota_S1024x256_d1_w32)

/-- The rows' smallest entries. -/
def kn2 (d : FVec Ideal S1024x256 .f32) : FVec Ideal S1024x1 .f32 :=
  shapeCast S1024x1 (multiReduction .minimumf [1] S1024 d 0x7F800000#32 reduces_S1024x256_S1024 (.inl rfl) rfl) shapeCasts_S1024_S1024x1

/-- The smallest column number at which a row's entry is its smallest, as a float. -/
def kf2 (d : FVec Ideal S1024x256 .f32) : FVec Ideal S1024x1 .f32 :=
  kn2 (select (cmpf .oeq d (broadcastTo S1024x256 (kn2 d) broadcasts_S1024x1_S1024x256)) ki2 (broadcast S1024x256 (Scalar.ofBits .f32 0x43800000#32)))

/-- One at the column of the given number, zero elsewhere. -/
def ko2 (i : FVec Ideal S1024x1 .f32) : FVec Ideal S1024x256 .bf16 :=
  truncf .bf16 (sitofp .f32 (extui 32 (cmpf .oeq ki2 (broadcastTo S1024x256 i broadcasts_S1024x1_S1024x256)) natLt_1_32)) bitsLt_bf16_f32

/-- The product of the indicator, thrice, with the codebook's three parts. -/
def kz2 (o : FVec Ideal S1024x256 .bf16) (e : FVec Ideal S256x256 .f32) : FVec Ideal S1024x256 .f32 :=
  matmul dot_S1024x768_S768x256_S1024x256_1_0_0_1_n_n none
    (concatenate S1024x768 1 [⟨S1024x256, o⟩, ⟨S1024x256, o⟩, ⟨S1024x256, o⟩] concatenates_S1024x256_S1024x256_S1024x256_S1024x768_d1)
    (concatenate S768x256 0 [⟨S256x256, truncf .bf16 (extf .f32 (truncf .bf16 e)) bitsLt_bf16_f32⟩,
      ⟨S256x256, truncf .bf16 (extf .f32 (truncf .bf16 (subf e (extf .f32 (truncf .bf16 e))))) bitsLt_bf16_f32⟩,
      ⟨S256x256, truncf .bf16 (subf (subf e (extf .f32 (truncf .bf16 e))) (extf .f32 (truncf .bf16 (subf e (extf .f32 (truncf .bf16 e)))))) bitsLt_bf16_f32⟩]
      concatenates_S256x256_S256x256_S256x256_S768x256_d0)
    (constant S1024x256 .f32 0x00000000#32)

/-- Level 2: a distance, at a row and a codeword. -/
theorem kd2_apply (r : FVec Ideal S1024x256 .f32) (e : FVec Ideal S256x256 .f32) (p : Fin 1024) (j : Fin 256) :
    kd2 r e (ix2 p j) = dist (rows e) (rows r p) j := by
  pointwise [kd2, dist]
  rw [ofBits_two]

/-- Level 2: the smallest distance of a row. -/
theorem kn2_apply (d : FVec Ideal S1024x256 .f32) (p : Fin 1024) : kn2 d (ix2 p 0) = d (ix2 p (first (rows d p))) := by
  pointwise [kn2]
  rw [ofBits_top]
  exact fold_min_eq (rows d p)

/-- Level 2: the codeword numbers as reals. -/
theorem ki2_apply (p : Fin 1024) (j : Fin 256) : ki2 (ix2 p j) = ((j.val : ℝ) : EReal) := by
  pointwise [ki2]
  exact sitofp_small (by omega)

/-- The index the kernel takes, as a float. -/
theorem kf2_apply (d : FVec Ideal S1024x256 .f32) (p : Fin 1024) : kf2 d (ix2 p 0) = (((first (rows d p)).val : ℝ) : EReal) := by
  have h : ∀ x : Fin 256, Scalar.select (FloatOps.cmpf (F := Ideal) (φ := .f32) .oeq (d (ix2 p x)) (kn2 d (ix2 p 0))) (ki2 (ix2 p x)) (Ideal.ofBits .f32 0x43800000#32)
      = if rows d p x = rows d p (first (rows d p)) then ((x.val : ℝ) : EReal) else ((256 : ℝ) : EReal) := by
    intro x
    rw [kn2_apply, ki2_apply, oeq_bit, ofBits_256]
    by_cases hx : d (ix2 p x) = d (ix2 p (first (rows d p)))
    · rw [if_pos (show rows d p x = _ from hx), decide_eq_true hx]; rfl
    · rw [if_neg (show ¬ rows d p x = _ from hx), decide_eq_false hx]; rfl
  rw [← fold_first_eq (rows d p) ((256 : ℝ) : EReal) (fun j => by rw [EReal.coe_le_coe_iff]; exact_mod_cast j.isLt.le)]
  unfold kf2
  rw [show ∀ g, kn2 g (ix2 p 0) = Finset.univ.fold min ⊤ fun x => g (ix2 p x) from fun g => by pointwise [kn2]; rw [ofBits_top]]
  refine congrArg (fun g => Finset.univ.fold min ⊤ g) (funext fun x => ?_)
  rw [← h x]
  pointwise

/-- The indicator of the index taken. -/
theorem ko2_apply (i : FVec Ideal S1024x1 .f32) (p : Fin 1024) (j₀ : Fin 256) (hi : i (ix2 p 0) = ((j₀.val : ℝ) : EReal)) (j : Fin 256) :
    ko2 i (ix2 p j) = if j = j₀ then (1 : EReal) else 0 := by
  pointwise [ko2]
  rw [ki2_apply, hi]
  refine (sitofp_bit _).trans ?_
  have : (((j.val : ℝ) : EReal) = ((j₀.val : ℝ) : EReal)) ↔ j = j₀ := by
    rw [EReal.coe_eq_coe_iff, Nat.cast_inj, Fin.val_inj]
  simp only [this]

/-- The product with the indicator is the codeword taken. -/
theorem kz2_apply (o : FVec Ideal S1024x256 .bf16) (e : FVec Ideal S256x256 .f32) (he : ∀ j d, Real' (rows e j d)) (p : Fin 1024) (j₀ : Fin 256)
    (ho : ∀ j, o (ix2 p j) = if j = j₀ then (1 : EReal) else 0) (d : Fin 256) : kz2 o e (ix2 p d) = rows e j₀ d := by
  rw [← onehot_sum j₀ (fun j => rows e j d) fun j => he j d]
  simp only [← ho]
  unfold kz2
  pointwise
  rw [sum_three (k := 256) rfl]
  refine congrArg₂ _ (Finset.sum_congr rfl fun x _ => ?_) (congrArg₂ _ (Finset.sum_congr rfl fun x _ => ?_) (Finset.sum_congr rfl fun x _ => ?_))
  · simp
  · simp
  · simp

/-- The codewords the kernel takes for a block of rows. -/
def kq2 (r : FVec Ideal S1024x256 .f32) (e : FVec Ideal S256x256 .f32) : FVec Ideal S1024x256 .f32 := kz2 (ko2 (kf2 (kd2 r e))) e

/-- Level 2: a row of distances. -/
theorem rows_kd2 (r : FVec Ideal S1024x256 .f32) (e : FVec Ideal S256x256 .f32) (p : Fin 1024) : rows (kd2 r e) p = dist (rows e) (rows r p) :=
  funext fun j => kd2_apply r e p j

/-- The index float of a row is its level's index. -/
theorem kfd2_apply (r : FVec Ideal S1024x256 .f32) (e : FVec Ideal S256x256 .f32) (p : Fin 1024) :
    kf2 (kd2 r e) (ix2 p 0) = (((idx (rows e) (rows r p)).val : ℝ) : EReal) := by
  rw [kf2_apply, rows_kd2]; rfl

/-- Level 2: the codeword that the one-hot product gives. -/
theorem kq2_apply (r : FVec Ideal S1024x256 .f32) (e : FVec Ideal S256x256 .f32) (he : ∀ j d, Real' (rows e j d)) (p : Fin 1024) (d : Fin 256) :
    kq2 r e (ix2 p d) = cw (rows e) (rows r p) d :=
  kz2_apply _ e he p _ (ko2_apply _ p _ (kfd2_apply r e p)) d

/-- The sum over a block of the squared differences of two blocks of rows. -/
def ks (q r : FVec Ideal S1024x256 .f32) : EReal :=
  extractAt ![0, 0, 0] (shapeCast S1x1x1 (multiReduction .add [1, 2] S1 (shapeCast S1x1024x256 (mulf (subf q r) (subf q r)) shapeCasts_S1024x256_S1x1024x256)
    0x00000000#32 reduces_S1x1024x256_S1 (.inl rfl) rfl) shapeCasts_S1_S1x1x1) inpos_S1x1x1_p0_0_0

/-- The sum of squared differences over a block. -/
theorem ks_eq (q r : FVec Ideal S1024x256 .f32) :
    ks q r = ∑ p : Fin 1024, ∑ d : Fin 256, (q (ix2 p d) - r (ix2 p d)) * (q (ix2 p d) - r (ix2 p d)) := by
  unfold ks extractAt
  pointwise

end Cert.VQ.Level

end
-- ==== Proof.VQ.Block.lean ====
/-
  What the kernel's body stores for one block of 1024 rows, in terms of the three levels.
-/
module

public import proofs.«01_k».proof.Proof.VQ.Level
public import proofs.«01_k».proof.Proof.Body

@[expose] public section

set_option maxRecDepth 16384

noncomputable section

namespace Cert.VQ.Block

open Cert.KernelIdeal Cert.KernelIdeal.Gen Cert.KernelIdeal.Body Cert.VQ.Level
open Idealize.ShloMosaic

variable (x0 : FVec Ideal S1024x1408 .f32) (x1 : FVec Ideal S256x1408 .f32) (x2 : FVec Ideal S1x256 .f32) (x3 : FVec Ideal S1408x256 .f32)
  (x4 : FVec Ideal S1x1408 .f32) (x5 : FVec Ideal S64x256 .f32) (x6 : FVec Ideal S128x256 .f32) (x7 : FVec Ideal S256x256 .f32)

/-- The projected rows of a block. -/
theorem zp_apply (p : Fin 1024) (d : Fin 256) :
    zp (F := Ideal) x0 x1 x2 (ix2 p d) = ∑ c : Fin 1408, x0 (ix2 p c) * x1 (ix2 d c) + x2 (ix2 0 d) := by
  unfold zp
  pointwise [k0_pay3]

/-! ## The body's values as levels -/

/-- `oh0` by the level's own values. -/
theorem oh0_eq : oh0 (F := Ideal) x0 x1 x2 x5 = ko0 (kf0 (kd0 (zp x0 x1 x2) x5)) := rfl

/-- `res1` by the level's own values. -/
theorem res1_eq : res1 (F := Ideal) x0 x1 x2 x5 = subf (zp x0 x1 x2) (kq0 (zp x0 x1 x2) x5) := rfl

/-- `res2` by the level's own values. -/
theorem res2_eq : res2 (F := Ideal) x0 x1 x2 x5 x6 = subf (res1 x0 x1 x2 x5) (kq1 (res1 x0 x1 x2 x5) x6) := rfl

/-- `sum2` by the level's own values. -/
theorem sum2_eq : sum2 (F := Ideal) x0 x1 x2 x5 x6 x7
    = truncf .bf16 (addf (addf (addf (broadcast S1024x256 (Scalar.ofBits .f32 0x00000000#32)) (kq0 (zp x0 x1 x2) x5)) (kq1 (res1 x0 x1 x2 x5) x6))
        (kq2 (res2 x0 x1 x2 x5 x6) x7)) bitsLt_bf16_f32 := rfl

/-- `part2` by the level's own values. -/
theorem part2_eq : part2 (F := Ideal) x0 x1 x2 x5 x6 x7
    = ((Ideal.ofBits .f32 0x00000000#32 + ks (kq0 (zp x0 x1 x2) x5) (zp x0 x1 x2)) + ks (kq1 (res1 x0 x1 x2 x5) x6) (res1 x0 x1 x2 x5))
        + ks (kq2 (res2 x0 x1 x2 x5 x6) x7) (res2 x0 x1 x2 x5 x6) := rfl

/-- `o9` by the level's own values. -/
theorem o9_eq : o9 (F := Ideal) x0 x1 x2 x5
    = shapeCast S1x1x1024 (fptosi 32 (shapeCast S1024 (kf0 (kd0 (zp x0 x1 x2) x5)) shapeCasts_S1024x1_S1024)) shapeCasts_S1024_S1x1x1024 := rfl

/-- `o10` by the level's own values. -/
theorem o10_eq : o10 (F := Ideal) x0 x1 x2 x5 x6
    = shapeCast S1x1x1024 (fptosi 32 (shapeCast S1024 (kf1 (kd1 (res1 x0 x1 x2 x5) x6)) shapeCasts_S1024x1_S1024)) shapeCasts_S1024_S1x1x1024 := rfl

/-- `o11` by the level's own values. -/
theorem o11_eq : o11 (F := Ideal) x0 x1 x2 x5 x6 x7
    = shapeCast S1x1x1024 (fptosi 32 (shapeCast S1024 (kf2 (kd2 (res2 x0 x1 x2 x5 x6) x7)) shapeCasts_S1024x1_S1024)) shapeCasts_S1024_S1x1x1024 := rfl

/-! ## Row by row -/

/-- The rows left after the first level. -/
theorem rows_res1 (h5 : ∀ j d, Real' (rows x5 j d)) (p : Fin 1024) :
    rows (res1 (F := Ideal) x0 x1 x2 x5) p = res (rows x5) (rows (zp (F := Ideal) x0 x1 x2) p) := by
  funext d
  show res1 (F := Ideal) x0 x1 x2 x5 (ix2 p d) = _
  rw [res1_eq]
  show zp (F := Ideal) x0 x1 x2 (ix2 p d) - kq0 (zp x0 x1 x2) x5 (ix2 p d) = _
  rw [kq0_apply _ _ h5]
  rfl

/-- The rows left after the second level. -/
theorem rows_res2 (h6 : ∀ j d, Real' (rows x6 j d)) (p : Fin 1024) :
    rows (res2 (F := Ideal) x0 x1 x2 x5 x6) p = res (rows x6) (rows (res1 (F := Ideal) x0 x1 x2 x5) p) := by
  funext d
  show res2 (F := Ideal) x0 x1 x2 x5 x6 (ix2 p d) = _
  rw [res2_eq]
  show res1 (F := Ideal) x0 x1 x2 x5 (ix2 p d) - kq1 (res1 x0 x1 x2 x5) x6 (ix2 p d) = _
  rw [kq1_apply _ _ h6]
  rfl

/-- The first level's indices. -/
theorem o9_apply (p : Fin 1024) :
    o9 (F := Ideal) x0 x1 x2 x5 (ix3 0 0 p) = BitVec.ofNat 32 (idx (rows x5) (rows (zp (F := Ideal) x0 x1 x2) p)).val := by
  rw [o9_eq]
  pointwise
  rw [kfd0_apply]
  exact fptosi_small (by omega)

/-- The second level's indices. -/
theorem o10_apply (p : Fin 1024) :
    o10 (F := Ideal) x0 x1 x2 x5 x6 (ix3 0 0 p) = BitVec.ofNat 32 (idx (rows x6) (rows (res1 (F := Ideal) x0 x1 x2 x5) p)).val := by
  rw [o10_eq]
  pointwise
  rw [kfd1_apply]
  exact fptosi_small (by omega)

/-- The third level's indices. -/
theorem o11_apply (p : Fin 1024) :
    o11 (F := Ideal) x0 x1 x2 x5 x6 x7 (ix3 0 0 p) = BitVec.ofNat 32 (idx (rows x7) (rows (res2 (F := Ideal) x0 x1 x2 x5 x6) p)).val := by
  rw [o11_eq]
  pointwise
  rw [kfd2_apply]
  exact fptosi_small (by omega)

/-- The output rows: the three codewords' sum against the output weights, and the bias. -/
theorem o8_apply (h5 : ∀ j d, Real' (rows x5 j d)) (h6 : ∀ j d, Real' (rows x6 j d)) (h7 : ∀ j d, Real' (rows x7 j d)) (p : Fin 1024) (c : Fin 1408) :
    o8 (F := Ideal) x0 x1 x2 x3 x4 x5 x6 x7 (ix2 p c)
      = ∑ d : Fin 256, ((cw (rows x5) (rows (zp (F := Ideal) x0 x1 x2) p) d + cw (rows x6) (rows (res1 (F := Ideal) x0 x1 x2 x5) p) d)
          + cw (rows x7) (rows (res2 (F := Ideal) x0 x1 x2 x5 x6) p) d) * x3 (ix2 c d) + x4 (ix2 0 c) := by
  unfold o8
  rw [sum2_eq]
  pointwise [k0_pay1, k0_pay31]
  simp only [kq0_apply _ _ h5, kq1_apply _ _ h6, kq2_apply _ _ h7]

/-- The block's sum of squared differences over the three levels. -/
theorem part2_apply (h5 : ∀ j d, Real' (rows x5 j d)) (h6 : ∀ j d, Real' (rows x6 j d)) (h7 : ∀ j d, Real' (rows x7 j d)) :
    part2 (F := Ideal) x0 x1 x2 x5 x6 x7
      = (∑ p, sq (rows x5) (rows (zp (F := Ideal) x0 x1 x2) p) + ∑ p, sq (rows x6) (rows (res1 (F := Ideal) x0 x1 x2 x5) p))
        + ∑ p, sq (rows x7) (rows (res2 (F := Ideal) x0 x1 x2 x5 x6) p) := by
  rw [part2_eq, ks_eq, ks_eq, ks_eq]
  simp only [kq0_apply _ _ h5, kq1_apply _ _ h6, kq2_apply _ _ h7, Ideal.ofBits_zero_f32, zero_add]
  rfl

/-- The loss after the block at point `n`. -/
theorem o12_apply (n : ℕ) (hn : n < 16) (y : FVec Ideal S1x1 .f32) :
    o12 (F := Ideal) x0 x1 x2 x5 x6 x7 n y (ix2 0 0)
      = (if n = 0 then 0 else y (ix2 0 0)) + part2 (F := Ideal) x0 x1 x2 x5 x6 x7 * ((1 / 50331648 : ℝ) : EReal) := by
  unfold o12
  pointwise [k0_pay2]
  have hk : (Named.named (F := Ideal) κ "loss_scale" (φ := .f32) 0x32AAAAAB#32) = ((1 / 50331648 : ℝ) : EReal) := by
    simp [Named.named, κ]
  rw [hk]
  congr 1
  by_cases h : n = 0
  · subst h
    rfl
  · have hne : BitVec.ofNat 32 n ≠ 0#32 := fun e => h (by
      have := congrArg BitVec.toNat e
      simp only [BitVec.toNat_ofNat] at this
      omega)
    rw [if_neg h]
    show (if BitVec.ofBool (BitVec.ofNat 32 n == 0#32) = 1#1 then _ else _) = _
    rw [beq_false_of_ne hne]
    rfl

end Cert.VQ.Block

end
-- ==== Proof.VQ.Spec.lean ====
/-
  The five results as functions of the arguments, row by row: the projected rows, three rounds of nearest codeword and
  residual, the output projection, and the mean of the squared differences.
-/
module

public import proofs.«01_k».proof.Proof.VQ.Math

@[expose] public section

noncomputable section

namespace Cert.VQ

/-- The projected row `R` of the flattened batch. -/
def row0 (z : Fin 8 → Fin 2048 → Fin 1408 → EReal) (w : Fin 256 → Fin 1408 → EReal) (b : Fin 256 → EReal) (R : Fin 16384) (d : Fin 256) : EReal :=
  ∑ c : Fin 1408, z ⟨R.val / 2048, by omega⟩ ⟨R.val % 2048, by omega⟩ c * w d c + b d

variable (r : Fin 16384 → Fin 256 → EReal) (e0 : Fin 64 → Fin 256 → EReal) (e1 : Fin 128 → Fin 256 → EReal) (e2 : Fin 256 → Fin 256 → EReal)

/-- What the first level leaves of each row, -/
def row1 (R : Fin 16384) : Fin 256 → EReal := res e0 (r R)
/-- and the second. -/
def row2 (R : Fin 16384) : Fin 256 → EReal := res e1 (row1 r e0 R)

/-- The first level's index of each row, as a word, -/
def word0 (R : Fin 16384) : BitVec 32 := BitVec.ofNat 32 (idx e0 (r R)).val
/-- the second level's -/
def word1 (R : Fin 16384) : BitVec 32 := BitVec.ofNat 32 (idx e1 (row1 r e0 R)).val
/-- and the third's. -/
def word2 (R : Fin 16384) : BitVec 32 := BitVec.ofNat 32 (idx e2 (row2 r e0 e1 R)).val

/-- The sum of the three codewords of each row. -/
def code (R : Fin 16384) (d : Fin 256) : EReal := (cw e0 (r R) d + cw e1 (row1 r e0 R) d) + cw e2 (row2 r e0 e1 R) d

/-- The output row: that sum against the output weights, and the bias. -/
def outRow (wo : Fin 1408 → Fin 256 → EReal) (bo : Fin 1408 → EReal) (R : Fin 16384) (c : Fin 1408) : EReal :=
  ∑ d : Fin 256, code r e0 e1 e2 R d * wo c d + bo c

/-- The sums of squared differences of the three levels over all rows, -/
def total0 : EReal := ∑ R, sq e0 (r R)
/-- the second level's, -/
def total1 : EReal := ∑ R, sq e1 (row1 r e0 R)
/-- the third level's, -/
def total2 : EReal := ∑ R, sq e2 (row2 r e0 e1 R)

/-- and the loss: a quarter of each level's mean, averaged over the levels. -/
def lossVal : EReal := ((total0 r e0 + total1 r e0 e1) + total2 r e0 e1 e2) * ((1 / 50331648 : ℝ) : EReal)

/-- The rows that the first level reads are real. -/
theorem row0_real {z : Fin 8 → Fin 2048 → Fin 1408 → EReal} {w : Fin 256 → Fin 1408 → EReal} {b : Fin 256 → EReal}
    (hz : ∀ i j c, Real' (z i j c)) (hw : ∀ d c, Real' (w d c)) (hb : ∀ d, Real' (b d)) (R : Fin 16384) (d : Fin 256) : Real' (row0 z w b R d) :=
  (Real'.sum _ fun c => (hz _ _ c).mul (hw d c)).add (hb d)

section Real
variable {r e0 e1 e2} (hr : ∀ R d, Real' (r R d)) (h0 : ∀ j d, Real' (e0 j d)) (h1 : ∀ j d, Real' (e1 j d)) (h2 : ∀ j d, Real' (e2 j d))
include hr h0
/-- The rows that the second level reads are real. -/
theorem row1_real (R : Fin 16384) (d : Fin 256) : Real' (row1 r e0 R d) := res_real h0 (hr R) d
include h1
/-- The rows that the third level reads are real. -/
theorem row2_real (R : Fin 16384) (d : Fin 256) : Real' (row2 r e0 e1 R d) := res_real h1 (row1_real hr h0 R) d
end Real

end Cert.VQ

end
-- ==== Proof.VQ.Blocks.lean ====
/-
  What the kernel's input windows read at a grid point: sixteen blocks of 1024 rows of the flattened batch, and the
  weights, biases and codebooks whole.
-/
module

public import proofs.«01_k».proof.Proof.Launch
public import proofs.«01_k».proof.Proof.VQ.Block
public import proofs.«01_k».proof.Proof.VQ.Spec
public import Idealize.ShloMosaic.Lib.Pipeline.ValueKit
public import Idealize.ShloMosaic.Lib.StableHlo.RunRead

@[expose] public section

set_option maxRecDepth 16384

noncomputable section

namespace Cert.VQ.Arrays

open Cert.KernelIdeal Cert.KernelIdeal.Gen Cert.KernelIdeal.Body Cert.VQ.Level Cert.VQ.Block
open Idealize.ShloMosaic Idealize.ShloMosaic.TcCoe

variable (m : (ℓ : Loc nD τ sig) → Buf (Elt Ideal) ℓ) (c : Dev nD)

/-! ## The arguments, by coordinates -/

/-- The argument z. -/
abbrev argZ (i : Fin 8) (n : Fin 2048) (k : Fin 1408) : EReal := (m ((c : Thread nD τ).loc main_arg0) : FVec Ideal S8x2048x1408 .f32) (ix3 i n k)
/-- The argument W_in. -/
abbrev argW (d : Fin 256) (k : Fin 1408) : EReal := (m ((c : Thread nD τ).loc main_arg1) : FVec Ideal S256x1408 .f32) (ix2 d k)
/-- The argument b_in. -/
abbrev argB (d : Fin 256) : EReal := (m ((c : Thread nD τ).loc main_arg2) : FVec Ideal S256 .f32) (ix1 d)
/-- The argument W_out. -/
abbrev argWo (k : Fin 1408) (d : Fin 256) : EReal := (m ((c : Thread nD τ).loc main_arg3) : FVec Ideal S1408x256 .f32) (ix2 k d)
/-- The argument b_out. -/
abbrev argBo (k : Fin 1408) : EReal := (m ((c : Thread nD τ).loc main_arg4) : FVec Ideal S1408 .f32) (ix1 k)
/-- The argument emb0. -/
abbrev argE0 (j : Fin 64) (d : Fin 256) : EReal := (m ((c : Thread nD τ).loc main_arg5) : FVec Ideal S64x256 .f32) (ix2 j d)
/-- The argument emb1. -/
abbrev argE1 (j : Fin 128) (d : Fin 256) : EReal := (m ((c : Thread nD τ).loc main_arg6) : FVec Ideal S128x256 .f32) (ix2 j d)
/-- The argument emb2. -/
abbrev argE2 (j : Fin 256) (d : Fin 256) : EReal := (m ((c : Thread nD τ).loc main_arg7) : FVec Ideal S256x256 .f32) (ix2 j d)

/-- The projected rows of the whole batch. -/
abbrev r0 : Fin 16384 → Fin 256 → EReal := row0 (argZ m c) (argW m c) (argB m c)

/-! ## The windows' blocks -/

/-- Row `R` of the flattened batch is row `R % 2048` of member `R / 2048`. -/
theorem rows_flat (x : FVec Ideal S8x2048x1408 .f32) (R : Fin 16384) (k : Fin 1408) :
    shapeCast S16384x1408 x shapeCasts_S8x2048x1408_S16384x1408 (ix2 R k)
      = x (ix3 ⟨R.val / 2048, by omega⟩ ⟨R.val % 2048, by omega⟩ k) := by
  pointwise

/-- Row `p` of the block at point `t` is row `1024 t + p` of the batch. -/
def at16 (t : Fin cfg0.N) (p : Fin 1024) : Fin 16384 := ⟨1024 * t.val + p.val, by have := t.isLt; have : cfg0.N = 16 := N_0; omega⟩

/-- Which block of each input array a point reads. -/
theorem index_in : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The reshaped operand `main_v0` when the launch starts. -/
theorem V_v0 : (V m c main_v0 : FVec Ideal S16384x1408 .f32)
    = shapeCast S16384x1408 (m ((c : Thread nD τ).loc main_arg0) : FVec Ideal S8x2048x1408 .f32) shapeCasts_S8x2048x1408_S16384x1408 := by
  show StableHlo.after hostOps0 (fun b => m (c, b)) _ = _
  after_reads_simp
  all_goals rfl

/-- The reshaped operand `main_v1` when the launch starts. -/
theorem V_v1 : (V m c main_v1 : FVec Ideal S1x256 .f32)
    = shapeCast S1x256 (m ((c : Thread nD τ).loc main_arg2) : FVec Ideal S256 .f32) shapeCasts_S256_S1x256 := by
  show StableHlo.after hostOps0 (fun b => m (c, b)) _ = _
  after_reads_simp
  all_goals rfl

/-- The reshaped operand `main_v2` when the launch starts. -/
theorem V_v2 : (V m c main_v2 : FVec Ideal S1x1408 .f32)
    = shapeCast S1x1408 (m ((c : Thread nD τ).loc main_arg4) : FVec Ideal S1408 .f32) shapeCasts_S1408_S1x1408 := by
  show StableHlo.after hostOps0 (fun b => m (c, b)) _ = _
  after_reads_simp
  all_goals rfl

/-- Window 0's block at a point, from the arguments. -/
theorem blk0 (t : Fin cfg0.N) (p : Fin 1024) (k : Fin 1408) :
    (iblk m c 0 t : FVec Ideal S1024x1408 .f32) (ix2 p k)
      = argZ m c ⟨(at16 t p).val / 2048, by omega⟩ ⟨(at16 t p).val % 2048, by omega⟩ k := by
  have h : (iblk m c 0 t : FVec Ideal S1024x1408 .f32) (ix2 p k) = (V m c main_v0 : FVec Ideal S16384x1408 .f32) (ix2 (at16 t p) k) := by
    have e := index_in t
    blk_ext [iblk, e, at16]
  rw [h, V_v0]
  exact rows_flat _ _ _

/-- Window 1's block at a point, from the arguments. -/
theorem blk1 (t : Fin cfg0.N) (d : Fin 256) (k : Fin 1408) : (iblk m c 1 t : FVec Ideal S256x1408 .f32) (ix2 d k) = argW m c d k := by
  have h : (iblk m c 1 t : FVec Ideal S256x1408 .f32) (ix2 d k) = (V m c main_arg1 : FVec Ideal S256x1408 .f32) (ix2 d k) := by
    have e := index_in t
    blk_ext [iblk, e]
  rw [h, V_main_arg1]

/-- Window 2's block at a point, from the arguments. -/
theorem blk2 (t : Fin cfg0.N) (d : Fin 256) : (iblk m c 2 t : FVec Ideal S1x256 .f32) (ix2 0 d) = argB m c d := by
  have h : (iblk m c 2 t : FVec Ideal S1x256 .f32) (ix2 0 d) = (V m c main_v1 : FVec Ideal S1x256 .f32) (ix2 0 d) := by
    have e := index_in t
    blk_ext [iblk, e]
  rw [h, V_v1]
  pointwise

/-- Window 3's block at a point, from the arguments. -/
theorem blk3 (t : Fin cfg0.N) (k : Fin 1408) (d : Fin 256) : (iblk m c 3 t : FVec Ideal S1408x256 .f32) (ix2 k d) = argWo m c k d := by
  have h : (iblk m c 3 t : FVec Ideal S1408x256 .f32) (ix2 k d) = (V m c main_arg3 : FVec Ideal S1408x256 .f32) (ix2 k d) := by
    have e := index_in t
    blk_ext [iblk, e]
  rw [h, V_main_arg3]

/-- Window 4's block at a point, from the arguments. -/
theorem blk4 (t : Fin cfg0.N) (k : Fin 1408) : (iblk m c 4 t : FVec Ideal S1x1408 .f32) (ix2 0 k) = argBo m c k := by
  have h : (iblk m c 4 t : FVec Ideal S1x1408 .f32) (ix2 0 k) = (V m c main_v2 : FVec Ideal S1x1408 .f32) (ix2 0 k) := by
    have e := index_in t
    blk_ext [iblk, e]
  rw [h, V_v2]
  pointwise

/-- Window 5's block at a point, from the arguments. -/
theorem blk5 (t : Fin cfg0.N) : rows (iblk m c 5 t : FVec Ideal S64x256 .f32) = argE0 m c := by
  funext j d
  have h : (iblk m c 5 t : FVec Ideal S64x256 .f32) (ix2 j d) = (V m c main_arg5 : FVec Ideal S64x256 .f32) (ix2 j d) := by
    have e := index_in t
    blk_ext [iblk, e]
  rw [rows, h, V_main_arg5]

/-- Window 6's block at a point, from the arguments. -/
theorem blk6 (t : Fin cfg0.N) : rows (iblk m c 6 t : FVec Ideal S128x256 .f32) = argE1 m c := by
  funext j d
  have h : (iblk m c 6 t : FVec Ideal S128x256 .f32) (ix2 j d) = (V m c main_arg6 : FVec Ideal S128x256 .f32) (ix2 j d) := by
    have e := index_in t
    blk_ext [iblk, e]
  rw [rows, h, V_main_arg6]

/-- Window 7's block at a point, from the arguments. -/
theorem blk7 (t : Fin cfg0.N) : rows (iblk m c 7 t : FVec Ideal S256x256 .f32) = argE2 m c := by
  funext j d
  have h : (iblk m c 7 t : FVec Ideal S256x256 .f32) (ix2 j d) = (V m c main_arg7 : FVec Ideal S256x256 .f32) (ix2 j d) := by
    have e := index_in t
    blk_ext [iblk, e]
  rw [rows, h, V_main_arg7]

end Cert.VQ.Arrays

end
-- ==== Proof.VQ.Arrays.lean ====
/-
  What the kernel's five arrays hold after the last grid point: every row's output, its three indices, and the loss.
-/
module

public import proofs.«01_k».proof.Proof.VQ.Blocks

@[expose] public section

set_option maxRecDepth 16384

noncomputable section

namespace Cert.VQ.Arrays

open Cert.KernelIdeal Cert.KernelIdeal.Gen Cert.KernelIdeal.Body Cert.VQ.Level Cert.VQ.Block
open Idealize.ShloMosaic Idealize.ShloMosaic.TcCoe

variable (m : (ℓ : Loc nD τ sig) → Buf (Elt Ideal) ℓ) (c : Dev nD)

/-- Every codebook entry is finite. -/
structure Books : Prop where
  e0 : ∀ j d, Real' (argE0 m c j d)
  e1 : ∀ j d, Real' (argE1 m c j d)
  e2 : ∀ j d, Real' (argE2 m c j d)

/-! ## The rows of a block -/

/-- The projected rows of the block at point `t`. -/
theorem rows_zp (t : Fin cfg0.N) (p : Fin 1024) :
    rows (zp (F := Ideal) (iblk m c 0 t) (iblk m c 1 t) (iblk m c 2 t)) p = r0 m c (at16 t p) := by
  funext d
  refine (zp_apply _ _ _ p d).trans ?_
  rw [blk2]
  unfold r0 row0
  congr 1
  exact Finset.sum_congr rfl fun k _ => by rw [blk0, blk1]

variable {m c} (hb : Books m c)
include hb

/-- The block of the first codebook is real. -/
theorem real5 (t : Fin cfg0.N) : ∀ j d, Real' (rows (iblk m c 5 t : FVec Ideal S64x256 .f32) j d) := by rw [blk5]; exact hb.e0
/-- The block of the second codebook is real. -/
theorem real6 (t : Fin cfg0.N) : ∀ j d, Real' (rows (iblk m c 6 t : FVec Ideal S128x256 .f32) j d) := by rw [blk6]; exact hb.e1
/-- The block of the third codebook is real. -/
theorem real7 (t : Fin cfg0.N) : ∀ j d, Real' (rows (iblk m c 7 t : FVec Ideal S256x256 .f32) j d) := by rw [blk7]; exact hb.e2

/-- The rows that the second level reads at a point, from the arguments, -/
theorem rows_one (t : Fin cfg0.N) (p : Fin 1024) :
    rows (res1 (F := Ideal) (iblk m c 0 t) (iblk m c 1 t) (iblk m c 2 t) (iblk m c 5 t)) p = row1 (r0 m c) (argE0 m c) (at16 t p) := by
  rw [rows_res1 _ _ _ _ (real5 hb t), rows_zp, blk5]
  rfl

/-- and the third's. -/
theorem rows_two (t : Fin cfg0.N) (p : Fin 1024) :
    rows (res2 (F := Ideal) (iblk m c 0 t) (iblk m c 1 t) (iblk m c 2 t) (iblk m c 5 t) (iblk m c 6 t)) p
      = row2 (r0 m c) (argE0 m c) (argE1 m c) (at16 t p) := by
  rw [rows_res2 _ _ _ _ _ (real6 hb t), rows_one hb, blk6]
  rfl

/-! ## The output rows -/

/-- The array of output rows. -/
def out8 (m : (ℓ : Loc nD τ sig) → Buf (Elt Ideal) ℓ) (c : Dev nD) : FVec Ideal S16384x1408 .f32 := fun j =>
  outRow (r0 m c) (argE0 m c) (argE1 m c) (argE2 m c) (argWo m c) (argBo m c) (j 0) (j 1)

/-- What a point leaves in window 8, from the arguments. -/
theorem point8 (t : Fin cfg0.N) (p : Fin 1024) (k : Fin 1408) :
    o8 (F := Ideal) (iblk m c 0 t) (iblk m c 1 t) (iblk m c 2 t) (iblk m c 3 t) (iblk m c 4 t) (iblk m c 5 t) (iblk m c 6 t) (iblk m c 7 t) (ix2 p k)
      = outRow (r0 m c) (argE0 m c) (argE1 m c) (argE2 m c) (argWo m c) (argBo m c) (at16 t p) k := by
  refine (o8_apply _ _ _ _ _ _ _ _ (real5 hb t) (real6 hb t) (real7 hb t) p k).trans ?_
  rw [rows_zp, rows_one hb, rows_two hb, blk5, blk6, blk7, blk4]
  unfold outRow code
  congr 1
  exact Finset.sum_congr rfl fun d _ => by rw [blk3]

omit hb in
/-- Which block of each output array a point writes. -/
theorem index_out : ∀ t : Fin cfg0.N, win0_8.index t = ![t.val, 0] ∧ win0_9.index t = ![t.val, 0, 0] ∧ win0_10.index t = ![t.val, 0, 0]
    ∧ win0_11.index t = ![t.val, 0, 0] :=
  (by decide +kernel : ∀ t : Fin grid0.N, _)

/-- The array of output rows after the run. -/
theorem arr8 : (dats m 0 c).arrAt 8 cfg0.N = out8 m c := by
  refine (dats m 0 c).arrAt_eq_of_covers 8 _ (by decide +kernel) fun t hf y => ?_
  have e := index_out t
  blk_simp
  rw [after0_8]
  idx_vars y
  refine (point8 hb t y0 y1).trans ?_
  unfold out8
  congr 1
  · apply Fin.ext
    blk_simp [e]
    show 1024 * t.val + y0.val = _
    omega
  · apply Fin.ext
    blk_simp [e]

/-! ## The indices -/

/-- What a point leaves in window 9, from the arguments. -/
theorem point9 (t : Fin cfg0.N) (p : Fin 1024) :
    o9 (F := Ideal) (iblk m c 0 t) (iblk m c 1 t) (iblk m c 2 t) (iblk m c 5 t) (ix3 0 0 p) = word0 (r0 m c) (argE0 m c) (at16 t p) := by
  refine (o9_apply _ _ _ _ p).trans ?_
  rw [rows_zp, blk5]
  rfl

/-- What a point leaves in window 10, from the arguments. -/
theorem point10 (t : Fin cfg0.N) (p : Fin 1024) :
    o10 (F := Ideal) (iblk m c 0 t) (iblk m c 1 t) (iblk m c 2 t) (iblk m c 5 t) (iblk m c 6 t) (ix3 0 0 p)
      = word1 (r0 m c) (argE0 m c) (argE1 m c) (at16 t p) := by
  refine (o10_apply _ _ _ _ _ p).trans ?_
  rw [rows_one hb, blk6]
  rfl

/-- What a point leaves in window 11, from the arguments. -/
theorem point11 (t : Fin cfg0.N) (p : Fin 1024) :
    o11 (F := Ideal) (iblk m c 0 t) (iblk m c 1 t) (iblk m c 2 t) (iblk m c 5 t) (iblk m c 6 t) (iblk m c 7 t) (ix3 0 0 p)
      = word2 (r0 m c) (argE0 m c) (argE1 m c) (argE2 m c) (at16 t p) := by
  refine (o11_apply _ _ _ _ _ _ p).trans ?_
  rw [rows_two hb, blk7]
  rfl

/-- A row's word, laid out sixteen blocks of 1024. -/
def laid (f : Fin 16384 → BitVec 32) : IVec S16x1x1024 32 := fun j => f ⟨1024 * (j 0).val + (j 2).val, by
  have h0 : (j 0).val < 16 := (j 0).isLt
  have h2 : (j 2).val < 1024 := (j 2).isLt
  omega⟩

/-- The array of the first level's indices after the run. -/
theorem arr9 : (dats m 0 c).arrAt 9 cfg0.N = laid (word0 (r0 m c) (argE0 m c)) := by
  refine (dats m 0 c).arrAt_eq_of_covers 9 _ (by decide +kernel) fun t hf y => ?_
  have e := index_out t
  blk_simp
  rw [after0_9]
  idx_vars y
  obtain rfl : y0 = 0 := Subsingleton.elim _ _
  obtain rfl : y1 = 0 := Subsingleton.elim _ _
  refine (point9 hb t y2).trans ?_
  unfold laid
  congr 1
  apply Fin.ext
  blk_simp [e]
  show 1024 * t.val + y2.val = 1024 * (t.val + 0) + y2.val
  omega

/-- The array of the second level's indices after the run. -/
theorem arr10 : (dats m 0 c).arrAt 10 cfg0.N = laid (word1 (r0 m c) (argE0 m c) (argE1 m c)) := by
  refine (dats m 0 c).arrAt_eq_of_covers 10 _ (by decide +kernel) fun t hf y => ?_
  have e := index_out t
  blk_simp
  rw [after0_10]
  idx_vars y
  obtain rfl : y0 = 0 := Subsingleton.elim _ _
  obtain rfl : y1 = 0 := Subsingleton.elim _ _
  refine (point10 hb t y2).trans ?_
  unfold laid
  congr 1
  apply Fin.ext
  blk_simp [e]
  show 1024 * t.val + y2.val = 1024 * (t.val + 0) + y2.val
  omega

/-- The array of the third level's indices after the run. -/
theorem arr11 : (dats m 0 c).arrAt 11 cfg0.N = laid (word2 (r0 m c) (argE0 m c) (argE1 m c) (argE2 m c)) := by
  refine (dats m 0 c).arrAt_eq_of_covers 11 _ (by decide +kernel) fun t hf y => ?_
  have e := index_out t
  blk_simp
  rw [after0_11]
  idx_vars y
  obtain rfl : y0 = 0 := Subsingleton.elim _ _
  obtain rfl : y1 = 0 := Subsingleton.elim _ _
  refine (point11 hb t y2).trans ?_
  unfold laid
  congr 1
  apply Fin.ext
  blk_simp [e]
  show 1024 * t.val + y2.val = 1024 * (t.val + 0) + y2.val
  omega

/-! ## The loss -/

/-- The share of the block at point `t`: its rows' squared differences over the three levels, -/
def share (m : (ℓ : Loc nD τ sig) → Buf (Elt Ideal) ℓ) (c : Dev nD) (t : Fin cfg0.N) : EReal :=
  (∑ p, sq (argE0 m c) (r0 m c (at16 t p)) + ∑ p, sq (argE1 m c) (row1 (r0 m c) (argE0 m c) (at16 t p)))
    + ∑ p, sq (argE2 m c) (row2 (r0 m c) (argE0 m c) (argE1 m c) (at16 t p))

/-- What a point leaves in window 12, from the arguments. -/
theorem point12 (t : Fin cfg0.N) :
    part2 (F := Ideal) (iblk m c 0 t) (iblk m c 1 t) (iblk m c 2 t) (iblk m c 5 t) (iblk m c 6 t) (iblk m c 7 t) = share m c t := by
  refine (part2_apply _ _ _ _ _ _ (real5 hb t) (real6 hb t) (real7 hb t)).trans ?_
  unfold share
  simp only [rows_zp, rows_one hb, rows_two hb, blk5, blk6, blk7]

/-- The loss after point `n` is the sum of the scaled shares so far. -/
theorem accs_eq : ∀ (n : ℕ) (h : n < cfg0.N),
    (accs m c n h : FVec Ideal S1x1 .f32) (ix2 0 0) = ∑ t : Fin (n + 1), share m c ⟨t.val, by omega⟩ * ((1 / 50331648 : ℝ) : EReal)
  | 0, h => by
    rw [accs]
    refine (o12_apply _ _ _ _ _ _ _ (by omega) _).trans ?_
    rw [point12 hb, if_pos rfl, zero_add]
    simp
  | n + 1, h => by
    have hN : cfg0.N = 16 := N_0
    rw [accs]
    refine (o12_apply _ _ _ _ _ _ _ (by omega) _).trans ?_
    rw [point12 hb, if_neg (by omega), accs_eq n, Fin.sum_univ_castSucc (n := n + 1)]
    rfl

omit hb in
/-- The sum over the sixteen blocks is the sum over the rows. -/
theorem sum_at (f : Fin 16384 → EReal) : ∑ t : Fin 16, ∑ p : Fin 1024, f ⟨1024 * t.val + p.val, by omega⟩ = ∑ R, f R := by
  rw [← Fintype.sum_prod_type' fun (t : Fin 16) (p : Fin 1024) => f ⟨1024 * t.val + p.val, by omega⟩]
  refine Fintype.sum_equiv (finProdFinEquiv (m := 16) (n := 1024)) _ _ fun x => ?_
  exact congrArg f (Fin.ext (Nat.add_comm _ _))

/-- The array of the loss, one number. -/
def loss12 (m : (ℓ : Loc nD τ sig) → Buf (Elt Ideal) ℓ) (c : Dev nD) : FVec Ideal S1x1 .f32 := fun _ =>
  lossVal (r0 m c) (argE0 m c) (argE1 m c) (argE2 m c)

/-- The sum of all the scaled shares is the loss. -/
theorem shares (hr : ∀ R d, Real' (r0 m c R d)) :
    ∑ t : Fin 16, share m c ⟨t.val, t.isLt⟩ * ((1 / 50331648 : ℝ) : EReal) = lossVal (r0 m c) (argE0 m c) (argE1 m c) (argE2 m c) := by
  have q0 : ∀ R, Real' (sq (argE0 m c) (r0 m c R)) := fun R => sq_real hb.e0 (hr R)
  have q1 : ∀ R, Real' (sq (argE1 m c) (row1 (r0 m c) (argE0 m c) R)) := fun R => sq_real hb.e1 (row1_real hr hb.e0 R)
  have q2 : ∀ R, Real' (sq (argE2 m c) (row2 (r0 m c) (argE0 m c) (argE1 m c) R)) := fun R => sq_real hb.e2 (row2_real hr hb.e0 hb.e1 R)
  unfold lossVal total0 total1 total2
  rw [← sum_at fun R => sq (argE0 m c) (r0 m c R), ← sum_at fun R => sq (argE1 m c) (row1 (r0 m c) (argE0 m c) R),
    ← sum_at fun R => sq (argE2 m c) (row2 (r0 m c) (argE0 m c) (argE1 m c) R), ← Finset.sum_add_distrib, ← Finset.sum_add_distrib,
    mul_comm, mul_sum_real]
  · exact Finset.sum_congr rfl fun t _ => mul_comm _ _
  · intro t
    exact ((Real'.sum _ fun p => q0 _).add (Real'.sum _ fun p => q1 _)).add (Real'.sum _ fun p => q2 _)

/-- The array of the loss after the run. -/
theorem arr12 (hr : ∀ R d, Real' (r0 m c R d)) : (dats m 0 c).arrAt 12 cfg0.N = loss12 m c := by
  refine (dats m 0 c).arrAt_eq_of_covers 12 _ (by decide +kernel) fun t hf y => ?_
  have hN : cfg0.N = 16 := N_0
  have h15 : t.val = 15 := by
    have := (flush0_12 t).mp hf
    have := t.isLt
    omega
  blk_simp
  rw [after0_12]
  idx_vars y
  obtain rfl : y0 = 0 := Subsingleton.elim _ _
  obtain rfl : y1 = 0 := Subsingleton.elim _ _
  refine (accs_eq hb t.val t.isLt).trans ?_
  obtain ⟨n, hn⟩ := t
  dsimp only at h15
  subst h15
  exact shares hb hr

end Cert.VQ.Arrays

end
-- ==== Proof.VQ.KernelRes.lean ====
/-
  The kernel's five results: what the host reshapes after the launch make of the arrays it leaves.
-/
module

public import proofs.«01_k».proof.Proof.VQ.Arrays
public import Idealize.ShloMosaic.Lib.StableHlo.RunRead
public import Idealize.ShloMosaic.Lib.Pointwise

@[expose] public section

set_option maxRecDepth 16384

noncomputable section

namespace Cert.VQ.Arrays

open Cert.KernelIdeal Cert.KernelIdeal.Gen Cert.KernelIdeal.Body
open Idealize.ShloMosaic Idealize.ShloMosaic.TcCoe Idealize.SL.Sem

/-! ## The host reshapes after the launch -/

section tail

variable {F : FTy → Type} [FloatOps F] [Named F] (m : (ℓ : Loc nD τ sig) → Buf (Elt F) ℓ) (ρ : Dev nD → PrngReg) (c : Dev nD)

/-- A window's array, as the launch leaves it. -/
theorem left_arr (w : Fin 13) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide) c _ _ w

/-- The output rows, reshaped; -/
theorem ends_v4 : ends m c main_v4
    = (shapeCast S8x2048x1408 ((dats m 0 c).arrAt 8 cfg0.N : FVec F S16384x1408 .f32) shapeCasts_S16384x1408_S8x2048x1408 : FVec F S8x2048x1408 .f32) := by
  rw [← left_arr m c 8]
  show StableHlo.after hostOps1 _ _ = _
  after_reads_simp
  all_goals rfl

/-- the first level's indices; -/
theorem ends_v5 : ends m c main_v5
    = (shapeCast S8x2048 ((dats m 0 c).arrAt 9 cfg0.N : IVec S16x1x1024 32) shapeCasts_S16x1x1024_S8x2048 : IVec S8x2048 32) := by
  rw [← left_arr m c 9]
  show StableHlo.after hostOps1 _ _ = _
  after_reads_simp
  all_goals rfl

/-- the second's; -/
theorem ends_v6 : ends m c main_v6
    = (shapeCast S8x2048 ((dats m 0 c).arrAt 10 cfg0.N : IVec S16x1x1024 32) shapeCasts_S16x1x1024_S8x2048 : IVec S8x2048 32) := by
  rw [← left_arr m c 10]
  show StableHlo.after hostOps1 _ _ = _
  after_reads_simp
  all_goals rfl

/-- the third's; -/
theorem ends_v7 : ends m c main_v7
    = (shapeCast S8x2048 ((dats m 0 c).arrAt 11 cfg0.N : IVec S16x1x1024 32) shapeCasts_S16x1x1024_S8x2048 : IVec S8x2048 32) := by
  rw [← left_arr m c 11]
  show StableHlo.after hostOps1 _ _ = _
  after_reads_simp
  all_goals rfl

/-- and the loss. -/
theorem ends_v8 : ends m c main_v8
    = (shapeCast S_ ((dats m 0 c).arrAt 12 cfg0.N : FVec F S1x1 .f32) shapeCasts_S1x1_S_ : FVec F S_ .f32) := by
  rw [← left_arr m c 12]
  show StableHlo.after hostOps1 _ _ = _
  after_reads_simp
  all_goals rfl

/-- The run read at the five results and the arguments. -/
theorem run_results : θ_run defs (onTc (τ := τ) (main (F := F))) ⟨m, fun _ => 0, ρ⟩ (fun r => ∀ c : Dev nD,
      (r.2.mem ((c.tc : Thread nD τ).loc main_v4) = ends m c main_v4
        ∧ r.2.mem ((c.tc : Thread nD τ).loc main_v5) = ends m c main_v5
        ∧ r.2.mem ((c.tc : Thread nD τ).loc main_v6) = ends m c main_v6
        ∧ r.2.mem ((c.tc : Thread nD τ).loc main_v7) = ends m c main_v7
        ∧ r.2.mem ((c.tc : Thread nD τ).loc main_v8) = ends m c main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨⟨(h.1.1 c).2 main_v4 (Pipeline.mem_restRefs_of main_v4 (by decide) (by decide)),
      (h.1.1 c).2 main_v5 (Pipeline.mem_restRefs_of main_v5 (by decide) (by decide)),
      (h.1.1 c).2 main_v6 (Pipeline.mem_restRefs_of main_v6 (by decide) (by decide)),
      (h.1.1 c).2 main_v7 (Pipeline.mem_restRefs_of main_v7 (by decide) (by decide)),
      (h.1.1 c).2 main_v8 (Pipeline.mem_restRefs_of main_v8 (by decide) (by decide))⟩, h.2 c⟩)
    (θ_run_and (run_quiescent m ρ) (unchanged m ρ))

end tail

/-! ## The results at an index -/

/-- The reshaped output at batch `i`, position `n` is the array's row of that position, -/
theorem rows_at (x : FVec Ideal S16384x1408 .f32) (i : Fin 8) (n : Fin 2048) (k : Fin 1408) :
    shapeCast S8x2048x1408 x shapeCasts_S16384x1408_S8x2048x1408 (ix3 i n k) = x (ix2 ⟨i.val * 2048 + n.val, by omega⟩ k) := by
  pointwise

/-- and a reshaped index array the word of it. -/
theorem words_at (f : Fin 16384 → BitVec 32) (i : Fin 8) (n : Fin 2048) :
    shapeCast S8x2048 (laid f) shapeCasts_S16x1x1024_S8x2048 (ix2 i n) = f ⟨i.val * 2048 + n.val, by omega⟩ := by
  pointwise
  refine congrArg f (Fin.ext ?_)
  show 1024 * (i.val * 2 + n.val / 1024) + n.val % 1024 = i.val * 2048 + n.val
  omega

end Cert.VQ.Arrays

end
-- ==== Proof.VQ.ArgMin.lean ====
/-
  The reference's arg-min reduction and its take of table rows, read at an index.
-/
module

public import proofs.«01_k».proof.Proof.VQ.Math
public import proofs.«01_k».proof.Proof.VQ.Words
public import proofs.«01_k».proof.Proof.Ref.Vals
public import Idealize.ShloMosaic.Lib.Routing.Ops

@[expose] public section

set_option maxRecDepth 16384

noncomputable section

namespace Cert.VQ.Ref

open Cert.ReferenceIdeal
open Idealize.ShloMosaic

/-! ## The arg-min's fold -/

/-- The pair that the reducer keeps: the smaller value, of equal values the smaller index. -/
abbrev red : EReal × BitVec 32 → EReal × BitVec 32 → EReal × BitVec 32 := reducer_argmin_f32_i32 (F := Ideal)

/-- `a` comes before `b`: smaller, or equal with a smaller index. -/
def Before (a b : EReal × BitVec 32) : Prop := a.1 < b.1 ∨ a.1 = b.1 ∧ a.2.toInt < b.2.toInt

/-- `a` comes before `b` or ties with it. -/
def AtMost (a b : EReal × BitVec 32) : Prop := a.1 < b.1 ∨ a.1 = b.1 ∧ a.2.toInt ≤ b.2.toInt

/-- The reducer keeps the first of two pairs where it comes before, -/
theorem red_of_before {a b : EReal × BitVec 32} (h : Before a b) : red a b = a := by
  obtain ⟨a1, a2⟩ := a
  obtain ⟨b1, b2⟩ := b
  rcases h with h | ⟨h, h'⟩
  · dsimp only at h
    simp [red, reducer_argmin_f32_i32, Scalar.select, FloatOps.cmpf, Ideal.cmp, IntOp.ori, IntOp.andi, IntOp.cmpi, h, h.ne]
  · dsimp only at h h'
    subst h
    simp [red, reducer_argmin_f32_i32, Scalar.select, FloatOps.cmpf, Ideal.cmp, IntOp.ori, IntOp.andi, IntOp.cmpi, BitVec.slt, h']

/-- and else the second. -/
theorem red_of_not {a b : EReal × BitVec 32} (h : ¬Before a b) : red a b = b := by
  obtain ⟨a1, a2⟩ := a
  obtain ⟨b1, b2⟩ := b
  unfold Before at h
  push Not at h
  dsimp only at h
  obtain ⟨h, h'⟩ := h
  by_cases e : a1 = b1
  · replace h' := h' e
    subst e
    simp [red, reducer_argmin_f32_i32, Scalar.select, FloatOps.cmpf, Ideal.cmp, IntOp.ori, IntOp.andi, IntOp.cmpi, BitVec.slt, not_lt.mpr h']
  · simp [red, reducer_argmin_f32_i32, Scalar.select, FloatOps.cmpf, Ideal.cmp, IntOp.ori, IntOp.andi, IntOp.cmpi, not_lt.mpr h, e]

/-- Every pair is at most itself; -/
theorem AtMost.refl (a : EReal × BitVec 32) : AtMost a a := Or.inr ⟨rfl, le_rfl⟩

/-- the order is transitive; -/
theorem AtMost.trans {a b c : EReal × BitVec 32} (h : AtMost a b) (h' : AtMost b c) : AtMost a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- what comes before is at most; -/
theorem Before.atMost {a b : EReal × BitVec 32} (h : Before a b) : AtMost a b := h.imp id fun h => ⟨h.1, h.2.le⟩

/-- what doesn't come before is at least. -/
theorem atMost_of_not {a b : EReal × BitVec 32} (h : ¬Before a b) : AtMost b a := by
  unfold Before at h
  push Not at h
  rcases lt_or_eq_of_le h.1 with l | e
  · exact Or.inl l
  · exact Or.inr ⟨e, h.2 e.symm⟩

/-- The fold's result is one of the pairs and at most each of them. -/
theorem red_fold (L : List (EReal × BitVec 32)) : ∀ init, L.foldl red init ∈ init :: L ∧ ∀ p ∈ init :: L, AtMost (L.foldl red init) p := by
  induction L with
  | nil =>
    intro init
    refine ⟨List.mem_cons_self, fun p hp => ?_⟩
    rw [List.mem_singleton] at hp
    subst hp
    exact AtMost.refl _
  | cons a L ih =>
    intro init
    obtain ⟨hm, hl⟩ := ih (red init a)
    rw [List.foldl_cons]
    have hsel : (red init a = init ∧ AtMost init a) ∨ (red init a = a ∧ AtMost a init) := by
      by_cases h : Before init a
      · exact Or.inl ⟨red_of_before h, h.atMost⟩
      · exact Or.inr ⟨red_of_not h, atMost_of_not h⟩
    have h0 := hl (red init a) List.mem_cons_self
    refine ⟨?_, fun p hp => ?_⟩
    · rcases List.mem_cons.mp hm with e | e
      · rw [e]
        rcases hsel with ⟨s, -⟩ | ⟨s, -⟩ <;> rw [s] <;> simp
      · simp [e]
    · rcases List.mem_cons.mp hp with e | e
      · subst e
        rcases hsel with ⟨s, -⟩ | ⟨s, k⟩
        · rw [s] at h0 ⊢; exact h0
        · rw [s] at h0 ⊢; exact h0.trans k
      · rcases List.mem_cons.mp e with e | e
        · subst e
          rcases hsel with ⟨s, k⟩ | ⟨s, -⟩
          · rw [s] at h0 ⊢; exact h0.trans k
          · rw [s] at h0 ⊢; exact h0
        · exact hl p (List.mem_cons_of_mem _ e)

/-- Over a row's values with their indices, from the pair of infinity and zero, the fold's index is that of the first
    smallest value. -/
theorem fold_first {k : ℕ} [NeZero k] (hk : k ≤ 1024) (f : Fin k → EReal) (L : List (EReal × BitVec 32))
    (hL : ∀ p, p ∈ L ↔ ∃ j : Fin k, p = (f j, BitVec.ofNat 32 j.val)) : (L.foldl red (⊤, 0#32)).2 = BitVec.ofNat 32 (first f).val := by
  obtain ⟨hm, hl⟩ := red_fold L (⊤, 0#32)
  have hle : ∀ j : Fin k, AtMost (L.foldl red (⊤, 0#32)) (f j, BitVec.ofNat 32 j.val) := fun j =>
    hl _ (List.mem_cons_of_mem _ ((hL _).mpr ⟨j, rfl⟩))
  generalize L.foldl red (⊤, 0#32) = v at hm hle
  rcases List.mem_cons.mp hm with e | e
  · subst e
    have htop : ∀ j, f j = ⊤ := fun j => by
      rcases hle j with h | ⟨h, -⟩
      · exact absurd h not_top_lt
      · exact h.symm
    have h0 : First f 0 := ⟨fun i => by rw [htop, htop], fun i hi => absurd hi (by
      rw [Fin.lt_def]
      have : ((0 : Fin k) : ℕ) = 0 := by simp
      omega)⟩
    rw [first_eq h0]
    simp
  · obtain ⟨j, rfl⟩ := (hL _).mp e
    have hj : First f j := by
      refine ⟨fun i => ?_, fun i hi => ?_⟩
      · rcases hle i with h | ⟨h, -⟩
        · exact h.le
        · exact h.le
      · rcases hle i with h | ⟨-, h⟩
        · exact h
        · dsimp only at h
          rw [toInt_small (by omega), toInt_small (by omega)] at h
          rw [Fin.lt_def] at hi
          omega
    rw [first_eq hj]

/-- The pairs that a row's reduction folds over. -/
theorem mem_fiber {n k : ℕ} (x : FVec Ideal ⟨2, ![n, k]⟩ .f32) (h : (⟨2, ![n, k]⟩ : Shape).ReducesTo [1] ⟨1, ![n]⟩) (R : Fin n)
    (p : EReal × BitVec 32) :
    p ∈ Host.argReduceFiber x (iotaInDim ⟨2, ![n, k]⟩ 32 1) h (ix1 R) ↔ ∃ j : Fin k, p = (x (ix2 R j), BitVec.ofNat 32 j.val) := by
  unfold Host.argReduceFiber
  have hd : ∀ i : (⟨2, ![n, k]⟩ : Shape).Idx, h.drop i = ix1 R ↔ i 0 = R := fun i => by
    constructor
    · intro e
      have := congrArg (fun j : (⟨1, ![n]⟩ : Shape).Idx => (j 0 : ℕ)) e
      exact Fin.ext this
    · intro e
      funext a
      obtain rfl : a = 0 := Subsingleton.elim _ _
      exact Fin.ext (congrArg Fin.val e)
  simp only [List.mem_map, List.mem_filter, List.mem_finRange, true_and, decide_eq_true_eq]
  constructor
  · rintro ⟨q, hq, rfl⟩
    have h0 := (hd _).mp hq
    refine ⟨((⟨2, ![n, k]⟩ : Shape).rowMajor.symm q) 1, ?_⟩
    have e : (⟨2, ![n, k]⟩ : Shape).rowMajor.symm q = ix2 R (((⟨2, ![n, k]⟩ : Shape).rowMajor.symm q) 1) := by
      funext a
      match a with
      | ⟨0, _⟩ => exact h0
      | ⟨1, _⟩ => rfl
    exact Prod.ext (congrArg x e) rfl
  · rintro ⟨j, rfl⟩
    refine ⟨(⟨2, ![n, k]⟩ : Shape).rowMajor (ix2 R j), ?_, ?_⟩
    · rw [Equiv.symm_apply_apply]
      exact (hd _).mpr rfl
    · rw [Equiv.symm_apply_apply]
      rfl

/-- The indices of the arg-min reduction. -/
def pickMin {F : FTy → Type} [FloatOps F] {s t : Shape} {axes : List (Fin s.rank)} (x : FVec F s .f32) (y : IVec s 32) (h : s.ReducesTo axes t) :
    IVec t 32 := fun j =>
  (Host.argReduce reducer_argmin_f32_i32 x y (constant S_ .f32 0x7F800000#32) (constantI S_ 32 0#32) h Facts₀.h_S_ j).2

/-- The arg-min reduction of a row gives the first index of a smallest entry. -/
theorem pickMin_row {n k : ℕ} [NeZero k] (hk : k ≤ 1024) (x : FVec Ideal ⟨2, ![n, k]⟩ .f32) (h : (⟨2, ![n, k]⟩ : Shape).ReducesTo [1] ⟨1, ![n]⟩)
    (R : Fin n) : pickMin x (iotaInDim ⟨2, ![n, k]⟩ 32 1) h (ix1 R) = BitVec.ofNat 32 (first fun j : Fin k => x (ix2 R j)).val := by
  unfold pickMin
  rw [Ideal.argReduce_eq_reduce2, Host.reduce2_eq_foldl_fiber]
  show (List.foldl red (Ideal.ofBits .f32 0x7F800000#32, 0#32) _).2 = _
  rw [ofBits_top]
  exact fold_first hk (fun j => x (ix2 R j)) _ (mem_fiber x h R)

/-! ## The three levels' arg-min and take -/

open Cert.ReferenceIdeal.Host Cert.ReferenceIdeal.Gen

/-- An index word below the table's height is not wrapped. -/
theorem wrap_small {k : ℕ} (hk : k ≤ 1024) {b : ℕ} (hb : b < k) (K : BitVec 32) :
    Scalar.select (IntOp.cmpi .slt (BitVec.ofNat 32 b) 0#32) (BitVec.ofNat 32 b + K) (BitVec.ofNat 32 b) = BitVec.ofNat 32 b := by
  have h : IntOp.cmpi .slt (BitVec.ofNat 32 b) 0#32 = 0#1 := by
    show BitVec.ofBool (BitVec.slt _ _) = _
    rw [BitVec.slt, toInt_small (by omega)]
    simp only [BitVec.toInt_zero, not_lt.mpr (Int.natCast_nonneg b), decide_false]
    rfl
  rw [h]
  rfl

/-- Level 0's picked indices, as those of the general arg-min reduction. -/
theorem near0_def {F : FTy → Type} [FloatOps F] (d : FVec F S16384x64 .f32) :
    near0 d = pickMin d (iotaInDim S16384x64 32 1) reducesTo_S16384x64_S16384_d1 := rfl

/-- Level 0: the index picked for a row is that of its first smallest distance. -/
theorem near0_apply (d : FVec Ideal S16384x64 .f32) (R : Fin 16384) :
    near0 d (ix1 R) = BitVec.ofNat 32 (first fun j : Fin 64 => d (ix2 R j)).val := by
  rw [near0_def]
  exact pickMin_row (n := 16384) (k := 64) (by omega) d reducesTo_S16384x64_S16384_d1 R

/-- Level 0: where the index array holds `b`, the row taken is the table's row `b`. -/
theorem pick0_apply (e : FVec Ideal S64x256 .f32) (i : IVec S16384 32) (R : Fin 16384) (b : Fin 64) (hb : i (ix1 R) = BitVec.ofNat 32 b.val) (d : Fin 256) :
    pick0 e i (ix2 R d) = e (ix2 b d) := by
  unfold pick0
  refine Routing.gather_row _ rfl rfl rfl rfl rfl e _ R d b ?_ (by decide)
  pointwise
  rw [hb]
  exact wrap_small (k := 64) (by omega) b.isLt _

/-- Level 1's picked indices, as those of the general arg-min reduction. -/
theorem near1_def {F : FTy → Type} [FloatOps F] (d : FVec F S16384x128 .f32) :
    near1 d = pickMin d (iotaInDim S16384x128 32 1) reducesTo_S16384x128_S16384_d1 := rfl

/-- Level 1: the index picked for a row is that of its first smallest distance. -/
theorem near1_apply (d : FVec Ideal S16384x128 .f32) (R : Fin 16384) :
    near1 d (ix1 R) = BitVec.ofNat 32 (first fun j : Fin 128 => d (ix2 R j)).val := by
  rw [near1_def]
  exact pickMin_row (n := 16384) (k := 128) (by omega) d reducesTo_S16384x128_S16384_d1 R

/-- Level 1: where the index array holds `b`, the row taken is the table's row `b`. -/
theorem pick1_apply (e : FVec Ideal S128x256 .f32) (i : IVec S16384 32) (R : Fin 16384) (b : Fin 128) (hb : i (ix1 R) = BitVec.ofNat 32 b.val) (d : Fin 256) :
    pick1 e i (ix2 R d) = e (ix2 b d) := by
  unfold pick1
  refine Routing.gather_row _ rfl rfl rfl rfl rfl e _ R d b ?_ (by decide)
  pointwise
  rw [hb]
  exact wrap_small (k := 128) (by omega) b.isLt _

/-- Level 2's picked indices, as those of the general arg-min reduction. -/
theorem near2_def {F : FTy → Type} [FloatOps F] (d : FVec F S16384x256 .f32) :
    near2 d = pickMin d (iotaInDim S16384x256 32 1) reducesTo_S16384x256_S16384_d1 := rfl

/-- Level 2: the index picked for a row is that of its first smallest distance. -/
theorem near2_apply (d : FVec Ideal S16384x256 .f32) (R : Fin 16384) :
    near2 d (ix1 R) = BitVec.ofNat 32 (first fun j : Fin 256 => d (ix2 R j)).val := by
  rw [near2_def]
  exact pickMin_row (n := 16384) (k := 256) (by omega) d reducesTo_S16384x256_S16384_d1 R

/-- Level 2: where the index array holds `b`, the row taken is the table's row `b`. -/
theorem pick2_apply (e : FVec Ideal S256x256 .f32) (i : IVec S16384 32) (R : Fin 16384) (b : Fin 256) (hb : i (ix1 R) = BitVec.ofNat 32 b.val) (d : Fin 256) :
    pick2 e i (ix2 R d) = e (ix2 b d) := by
  unfold pick2
  refine Routing.gather_row _ rfl rfl rfl rfl rfl e _ R d b ?_ (by decide)
  pointwise
  rw [hb]
  exact wrap_small (k := 256) (by omega) b.isLt _

end Cert.VQ.Ref

end
-- ==== Proof.VQ.RefVal.lean ====
/-
  The reference's five results read row by row, as the functions of the arguments that the specification names.
-/
module

public import proofs.«01_k».proof.Proof.VQ.Spec
public import proofs.«01_k».proof.Proof.VQ.ArgMin
public import Idealize.ShloMosaic.Lib.Pointwise

@[expose] public section

set_option maxRecDepth 16384

noncomputable section

namespace Cert.VQ.Ref

open Cert.ReferenceIdeal Cert.ReferenceIdeal.Host Cert.ReferenceIdeal.Gen
open Idealize.ShloMosaic

/-! ## The stages, at an index -/

/-- The flattened projection, at a row. -/
theorem inp_apply (z : FVec Ideal S8x2048x1408 .f32) (w : FVec Ideal S256x1408 .f32) (b : FVec Ideal S256 .f32) (R : Fin 16384) (d : Fin 256) :
    inp z w b (ix2 R d) = row0 (fun i n c => z (ix3 i n c)) (fun d c => w (ix2 d c)) (fun d => b (ix1 d)) R d := by
  unfold inp
  pointwise
  rfl

/-- Level 0: the distances of a real row to real codewords. -/
theorem dist0_apply (r : FVec Ideal S16384x256 .f32) (e : FVec Ideal S64x256 .f32) (R : Fin 16384) (hr : ∀ d, Real' (r (ix2 R d)))
    (he : ∀ j d, Real' (e (ix2 j d))) (j : Fin 64) :
    dist0 r e (ix2 R j) = dist (fun j d => e (ix2 j d)) (fun d => r (ix2 R d)) j := by
  unfold dist0
  pointwise
  rw [ofBits_two, two_mul_sum hr (he j)]
  rfl

/-- Level 0: the index of a real row's nearest codeword. -/
theorem near0_row (r : FVec Ideal S16384x256 .f32) (e : FVec Ideal S64x256 .f32) (R : Fin 16384) (hr : ∀ d, Real' (r (ix2 R d)))
    (he : ∀ j d, Real' (e (ix2 j d))) :
    near0 (dist0 r e) (ix1 R) = BitVec.ofNat 32 (idx (fun j d => e (ix2 j d)) (fun d => r (ix2 R d))).val := by
  rw [near0_apply, funext (dist0_apply r e R hr he)]
  rfl

/-- Level 1: the distances of a real row to real codewords. -/
theorem dist1_apply (r : FVec Ideal S16384x256 .f32) (e : FVec Ideal S128x256 .f32) (R : Fin 16384) (hr : ∀ d, Real' (r (ix2 R d)))
    (he : ∀ j d, Real' (e (ix2 j d))) (j : Fin 128) :
    dist1 r e (ix2 R j) = dist (fun j d => e (ix2 j d)) (fun d => r (ix2 R d)) j := by
  unfold dist1
  pointwise
  rw [ofBits_two, two_mul_sum hr (he j)]
  rfl

/-- Level 1: the index of a real row's nearest codeword. -/
theorem near1_row (r : FVec Ideal S16384x256 .f32) (e : FVec Ideal S128x256 .f32) (R : Fin 16384) (hr : ∀ d, Real' (r (ix2 R d)))
    (he : ∀ j d, Real' (e (ix2 j d))) :
    near1 (dist1 r e) (ix1 R) = BitVec.ofNat 32 (idx (fun j d => e (ix2 j d)) (fun d => r (ix2 R d))).val := by
  rw [near1_apply, funext (dist1_apply r e R hr he)]
  rfl

/-- Level 2: the distances of a real row to real codewords. -/
theorem dist2_apply (r : FVec Ideal S16384x256 .f32) (e : FVec Ideal S256x256 .f32) (R : Fin 16384) (hr : ∀ d, Real' (r (ix2 R d)))
    (he : ∀ j d, Real' (e (ix2 j d))) (j : Fin 256) :
    dist2 r e (ix2 R j) = dist (fun j d => e (ix2 j d)) (fun d => r (ix2 R d)) j := by
  unfold dist2
  pointwise
  rw [ofBits_two, two_mul_sum hr (he j)]
  rfl

/-- Level 2: the index of a real row's nearest codeword. -/
theorem near2_row (r : FVec Ideal S16384x256 .f32) (e : FVec Ideal S256x256 .f32) (R : Fin 16384) (hr : ∀ d, Real' (r (ix2 R d)))
    (he : ∀ j d, Real' (e (ix2 j d))) :
    near2 (dist2 r e) (ix1 R) = BitVec.ofNat 32 (idx (fun j d => e (ix2 j d)) (fun d => r (ix2 R d))).val := by
  rw [near2_apply, funext (dist2_apply r e R hr he)]
  rfl

/-- A level's loss term: a quarter of the mean of the squared differences. -/
theorem term_apply (q r : FVec Ideal S16384x256 .f32) (j : S_.Idx) :
    term q r j = ((1 / 4 : ℝ) : EReal) * Ideal.div (∑ R, ∑ d, (q (ix2 R d) - r (ix2 R d)) * (q (ix2 R d) - r (ix2 R d))) ((4194304 : ℝ) : EReal) := by
  unfold term
  pointwise
  rw [ofBits_quarter, ofBits_count]

/-- A straight-through row that starts from a real row is the codeword. -/
theorem thru_apply (q r : FVec Ideal S16384x256 .f32) (R : Fin 16384) (d : Fin 256) (hr : Real' (r (ix2 R d))) : thru q r (ix2 R d) = q (ix2 R d) :=
  add_sub_real hr _

/-- The row of batch `b`, position `n`. -/
abbrev flat (b : Fin 8) (n : Fin 2048) : Fin 16384 := ⟨b.val * 2048 + n.val, by omega⟩

/-- The unflattened indices, at batch `b`, position `n`. -/
theorem unflat_apply (i : IVec S16384 32) (b : Fin 8) (n : Fin 2048) : unflat i (ix2 b n) = i (ix1 (flat b n)) := by
  unfold unflat
  pointwise

/-- The output at a position where `z` is real. -/
theorem outp_apply (z : FVec Ideal S8x2048x1408 .f32) (s : FVec Ideal S16384x256 .f32) (w : FVec Ideal S1408x256 .f32) (bo : FVec Ideal S1408 .f32)
    (b : Fin 8) (n : Fin 2048) (c : Fin 1408) (hz : Real' (z (ix3 b n c))) :
    outp z s w bo (ix3 b n c) = ∑ d, s (ix2 (flat b n) d) * w (ix2 c d) + bo (ix1 c) := by
  unfold outp
  pointwise
  rw [add_sub_real hz]

/-! ## The whole run -/

section whole

variable {z : FVec Ideal S8x2048x1408 .f32} {w : FVec Ideal S256x1408 .f32} {b : FVec Ideal S256 .f32}
  {e0 : FVec Ideal S64x256 .f32} {e1 : FVec Ideal S128x256 .f32} {e2 : FVec Ideal S256x256 .f32}

/-- The arguments that the rows and the three rounds read are real. -/
structure Reals (z : FVec Ideal S8x2048x1408 .f32) (w : FVec Ideal S256x1408 .f32) (b : FVec Ideal S256 .f32)
    (e0 : FVec Ideal S64x256 .f32) (e1 : FVec Ideal S128x256 .f32) (e2 : FVec Ideal S256x256 .f32) : Prop where
  z : ∀ i n c, Real' (z (ix3 i n c))
  w : ∀ d c, Real' (w (ix2 d c))
  b : ∀ d, Real' (b (ix1 d))
  e0 : ∀ j d, Real' (e0 (ix2 j d))
  e1 : ∀ j d, Real' (e1 (ix2 j d))
  e2 : ∀ j d, Real' (e2 (ix2 j d))

/-- The projected rows, -/
abbrev rows (z : FVec Ideal S8x2048x1408 .f32) (w : FVec Ideal S256x1408 .f32) (b : FVec Ideal S256 .f32) : Fin 16384 → Fin 256 → EReal :=
  row0 (fun i n c => z (ix3 i n c)) (fun d c => w (ix2 d c)) (fun d => b (ix1 d))
/-- and a table by its entries. -/
abbrev tab {k : ℕ} (e : FVec Ideal ⟨2, ![k, 256]⟩ .f32) : Fin k → Fin 256 → EReal := fun j d => e (ix2 j d)

variable (H : Reals z w b e0 e1 e2)
include H

/-- The projected rows are real. -/
theorem rows_real (R : Fin 16384) (d : Fin 256) : Real' (rows z w b R d) := row0_real H.z H.w H.b R d

/-- A row of the flattened projection. -/
theorem inp_row (R : Fin 16384) : (fun d => inp z w b (ix2 R d)) = rows z w b R := funext fun d => inp_apply z w b R d

/-- The flattened projection is real. -/
theorem inp_real (R : Fin 16384) (d : Fin 256) : Real' (inp z w b (ix2 R d)) := by
  rw [inp_apply]; exact rows_real H R d

/-- The first level's index of a row, -/
theorem i0_apply (R : Fin 16384) : i0 z w b e0 (ix1 R) = word0 (rows z w b) (tab e0) R := by
  unfold i0
  rw [near0_row _ _ R (inp_real H R) H.e0, inp_row H]
  rfl

/-- its codeword, -/
theorem q0_apply (R : Fin 16384) (d : Fin 256) : q0 z w b e0 (ix2 R d) = cw (tab e0) (rows z w b R) d := by
  unfold q0
  exact pick0_apply e0 _ R _ (i0_apply H R) d

/-- and what it leaves. -/
theorem r1_apply (R : Fin 16384) (d : Fin 256) : r1 z w b e0 (ix2 R d) = row1 (rows z w b) (tab e0) R d := by
  show inp z w b (ix2 R d) - q0 z w b e0 (ix2 R d) = _
  rw [inp_apply, q0_apply H]
  rfl

/-- The rows that the second level reads are real. -/
theorem r1_real (R : Fin 16384) (d : Fin 256) : Real' (r1 z w b e0 (ix2 R d)) := by
  rw [r1_apply H]; exact row1_real (rows_real H) H.e0 R d

/-- The second level's index of a row, -/
theorem i1_apply (R : Fin 16384) : i1 z w b e0 e1 (ix1 R) = word1 (rows z w b) (tab e0) (tab e1) R := by
  unfold i1
  rw [near1_row _ _ R (r1_real H R) H.e1, funext (r1_apply H R)]
  rfl

/-- its codeword, -/
theorem q1_apply (R : Fin 16384) (d : Fin 256) : q1 z w b e0 e1 (ix2 R d) = cw (tab e1) (row1 (rows z w b) (tab e0) R) d := by
  unfold q1
  exact pick1_apply e1 _ R _ (i1_apply H R) d

/-- and what it leaves. -/
theorem r2_apply (R : Fin 16384) (d : Fin 256) : r2 z w b e0 e1 (ix2 R d) = row2 (rows z w b) (tab e0) (tab e1) R d := by
  show r1 z w b e0 (ix2 R d) - q1 z w b e0 e1 (ix2 R d) = _
  rw [r1_apply H, q1_apply H]
  rfl

/-- The rows that the third level reads are real. -/
theorem r2_real (R : Fin 16384) (d : Fin 256) : Real' (r2 z w b e0 e1 (ix2 R d)) := by
  rw [r2_apply H]; exact row2_real (rows_real H) H.e0 H.e1 R d

/-- The third level's index of a row, -/
theorem i2_apply (R : Fin 16384) : i2 z w b e0 e1 e2 (ix1 R) = word2 (rows z w b) (tab e0) (tab e1) (tab e2) R := by
  unfold i2
  rw [near2_row _ _ R (r2_real H R) H.e2, funext (r2_apply H R)]
  rfl

/-- and its codeword. -/
theorem q2_apply (R : Fin 16384) (d : Fin 256) :
    q2 z w b e0 e1 e2 (ix2 R d) = cw (tab e2) (row2 (rows z w b) (tab e0) (tab e1) R) d := by
  unfold q2
  exact pick2_apply e2 _ R _ (i2_apply H R) d

/-- The output, at a position. -/
theorem out_apply (wo : FVec Ideal S1408x256 .f32) (bo : FVec Ideal S1408 .f32) (i : Fin 8) (n : Fin 2048) (c : Fin 1408) :
    out z w b wo bo e0 e1 e2 (ix3 i n c)
      = outRow (rows z w b) (tab e0) (tab e1) (tab e2) (fun c d => wo (ix2 c d)) (fun c => bo (ix1 c)) (flat i n) c := by
  unfold out
  rw [outp_apply _ _ _ _ i n c (H.z i n c)]
  unfold outRow code
  congr 1
  refine Finset.sum_congr rfl fun d _ => ?_
  congr 1
  show (thru _ _ (ix2 (flat i n) d) + thru _ _ (ix2 (flat i n) d)) + thru _ _ (ix2 (flat i n) d) = _
  rw [thru_apply _ _ _ _ (inp_real H _ _), thru_apply _ _ _ _ (r1_real H _ _), thru_apply _ _ _ _ (r2_real H _ _), q0_apply H, q1_apply H, q2_apply H]

omit H in
/-- A quarter of each of three means, summed and divided by three, for real sums. -/
theorem mean_three {a b c : EReal} (ha : Real' a) (hb : Real' b) (hc : Real' c) :
    Ideal.div (((0 + ((1 / 4 : ℝ) : EReal) * Ideal.div a ((4194304 : ℝ) : EReal)) + ((1 / 4 : ℝ) : EReal) * Ideal.div b ((4194304 : ℝ) : EReal))
        + ((1 / 4 : ℝ) : EReal) * Ideal.div c ((4194304 : ℝ) : EReal)) ((3 : ℝ) : EReal)
      = ((a + b) + c) * ((1 / 50331648 : ℝ) : EReal) := by
  obtain ⟨x, rfl⟩ := ha; obtain ⟨y, rfl⟩ := hb; obtain ⟨u, rfl⟩ := hc
  have h1 : ((4194304 : ℝ) : EReal) ≠ 0 := by exact_mod_cast (by norm_num : (4194304 : ℝ) ≠ 0)
  have h3 : ((3 : ℝ) : EReal) ≠ 0 := by exact_mod_cast (by norm_num : (3 : ℝ) ≠ 0)
  simp only [Ideal.div, if_neg h1, if_neg h3, zero_add, ← EReal.coe_inv, ← EReal.coe_mul, ← EReal.coe_add]
  congr 1
  ring

/-- Level 0's term of the loss, from the arguments. -/
theorem term0_apply (j : S_.Idx) : term (q0 z w b e0) (inp z w b) j
    = ((1 / 4 : ℝ) : EReal) * Ideal.div (total0 (rows z w b) (tab e0)) ((4194304 : ℝ) : EReal) := by
  rw [term_apply]
  simp only [q0_apply H, inp_apply]
  rfl

/-- Level 1's term of the loss, from the arguments. -/
theorem term1_apply (j : S_.Idx) : term (q1 z w b e0 e1) (r1 z w b e0) j
    = ((1 / 4 : ℝ) : EReal) * Ideal.div (total1 (rows z w b) (tab e0) (tab e1)) ((4194304 : ℝ) : EReal) := by
  rw [term_apply]
  simp only [q1_apply H, r1_apply H]
  rfl

/-- Level 2's term of the loss, from the arguments. -/
theorem term2_apply (j : S_.Idx) : term (q2 z w b e0 e1 e2) (r2 z w b e0 e1) j
    = ((1 / 4 : ℝ) : EReal) * Ideal.div (total2 (rows z w b) (tab e0) (tab e1) (tab e2)) ((4194304 : ℝ) : EReal) := by
  rw [term_apply]
  simp only [q2_apply H, r2_apply H]
  rfl

/-- The loss. -/
theorem loss_apply (j : S_.Idx) : loss z w b e0 e1 e2 j = lossVal (rows z w b) (tab e0) (tab e1) (tab e2) := by
  unfold loss
  show Ideal.div (((Ideal.ofBits .f32 0x00000000#32 + term (q0 z w b e0) (inp z w b) j) + term (q1 z w b e0 e1) (r1 z w b e0) j)
    + term (q2 z w b e0 e1 e2) (r2 z w b e0 e1) j) (Ideal.ofBits .f32 0x40400000#32) = _
  rw [term0_apply H, term1_apply H, term2_apply H, Ideal.ofBits_zero_f32, ofBits_three]
  exact mean_three (Real'.sum _ fun R => sq_real H.e0 (rows_real H R)) (Real'.sum _ fun R => sq_real H.e1 (row1_real (rows_real H) H.e0 R))
    (Real'.sum _ fun R => sq_real H.e2 (row2_real (rows_real H) H.e0 H.e1 R))

end whole

end Cert.VQ.Ref

end
-- ==== Proof.VQ.Equation.lean ====
/-
  The equation: from the same arguments the kernel's five results are the reference's.
-/
module

public import proofs.«01_k».proof.Proof.VQ.KernelRes
public import proofs.«01_k».proof.Proof.VQ.RefVal

@[expose] public section

set_option maxRecDepth 16384

noncomputable section

namespace Cert.VQ

open Cert.KernelIdeal Cert.KernelIdeal.Gen Cert.KernelIdeal.Body Cert.VQ.Arrays
open Idealize.ShloMosaic Idealize.ShloMosaic.TcCoe

section

variable (m : (ℓ : Loc nD τ sig) → Buf (Elt Ideal) ℓ) (c : Dev nD)

/-- The arguments as arrays. -/
abbrev inZ : FVec Ideal S8x2048x1408 .f32 := m ((c : Thread nD τ).loc main_arg0)
/-- The argument W_in. -/
abbrev inW : FVec Ideal S256x1408 .f32 := m ((c : Thread nD τ).loc main_arg1)
/-- The argument b_in. -/
abbrev inB : FVec Ideal S256 .f32 := m ((c : Thread nD τ).loc main_arg2)
/-- The argument W_out. -/
abbrev inWo : FVec Ideal S1408x256 .f32 := m ((c : Thread nD τ).loc main_arg3)
/-- The argument b_out. -/
abbrev inBo : FVec Ideal S1408 .f32 := m ((c : Thread nD τ).loc main_arg4)
/-- The argument emb0. -/
abbrev inE0 : FVec Ideal S64x256 .f32 := m ((c : Thread nD τ).loc main_arg5)
/-- The argument emb1. -/
abbrev inE1 : FVec Ideal S128x256 .f32 := m ((c : Thread nD τ).loc main_arg6)
/-- The argument emb2. -/
abbrev inE2 : FVec Ideal S256x256 .f32 := m ((c : Thread nD τ).loc main_arg7)

/-- The arguments that the rows and the three rounds read are real. -/
abbrev ArgsReal : Prop := Ref.Reals (inZ m c) (inW m c) (inB m c) (inE0 m c) (inE1 m c) (inE2 m c)

end

variable {m : (ℓ : Loc nD τ sig) → Buf (Elt Ideal) ℓ} {c : Dev nD} (H : ArgsReal m c)
include H

/-- The codebooks are real. -/
theorem books : Books m c := ⟨H.e0, H.e1, H.e2⟩

/-- The output rows. -/
theorem out_eq : ends m c main_v4
    = Cert.ReferenceIdeal.Host.out (inZ m c) (inW m c) (inB m c) (inWo m c) (inBo m c) (inE0 m c) (inE1 m c) (inE2 m c) := by
  rw [ends_v4, arr8 (books H)]
  funext j
  idx_vars j
  rw [Ref.out_apply H, rows_at]
  rfl

/-- The first level's indices, -/
theorem idx0_eq : ends m c main_v5 = Cert.ReferenceIdeal.Host.unflat (Cert.ReferenceIdeal.Host.i0 (inZ m c) (inW m c) (inB m c) (inE0 m c)) := by
  rw [ends_v5, arr9 (books H)]
  funext j
  idx_vars j
  rw [Ref.unflat_apply, Ref.i0_apply H, words_at]

/-- the second level's -/
theorem idx1_eq : ends m c main_v6
    = Cert.ReferenceIdeal.Host.unflat (Cert.ReferenceIdeal.Host.i1 (inZ m c) (inW m c) (inB m c) (inE0 m c) (inE1 m c)) := by
  rw [ends_v6, arr10 (books H)]
  funext j
  idx_vars j
  rw [Ref.unflat_apply, Ref.i1_apply H, words_at]

/-- and the third's. -/
theorem idx2_eq : ends m c main_v7
    = Cert.ReferenceIdeal.Host.unflat (Cert.ReferenceIdeal.Host.i2 (inZ m c) (inW m c) (inB m c) (inE0 m c) (inE1 m c) (inE2 m c)) := by
  rw [ends_v7, arr11 (books H)]
  funext j
  idx_vars j
  rw [Ref.unflat_apply, Ref.i2_apply H, words_at]

/-- The loss. -/
theorem loss_eq : ends m c main_v8 = Cert.ReferenceIdeal.Host.loss (inZ m c) (inW m c) (inB m c) (inE0 m c) (inE1 m c) (inE2 m c) := by
  rw [ends_v8, arr12 (books H) (Ref.rows_real H)]
  funext j
  rw [Ref.loss_apply H]
  rfl

end Cert.VQ

end
-- ==== Proof.VQ.Pre.lean ====
/-
  What the precondition says: the entries of z, W_in, b_in and the three codebooks are real.
-/
module

public import proofs.«01_k».proof.Pre_finite
public import proofs.«01_k».proof.Proof.VQ.Math
public import proofs.«01_k».proof.Proof.VQ.Words
public import Idealize.ShloMosaic.Lib.ReduceAll
public import Idealize.ShloMosaic.Lib.Pointwise

@[expose] public section

set_option maxRecDepth 16384

noncomputable section

namespace Cert.Pre_finite

open Idealize.ShloMosaic Cert.VQ

/-- The predicate's side conditions. -/
theorem facts : Facts where
  bcast_S_S8x2048x1408 := by decide
  reducesTo_S8x2048x1408_S_d0_1_2 := by decide
  h_S_ := by decide
  bcast_S_S256x1408 := by decide
  reducesTo_S256x1408_S_d0_1 := by decide
  bcast_S_S256 := by decide
  reducesTo_S256_S_d0 := by decide
  bcast_S_S64x256 := by decide
  reducesTo_S64x256_S_d0_1 := by decide
  bcast_S_S128x256 := by decide
  reducesTo_S128x256_S_d0_1 := by decide
  bcast_S_S256x256 := by decide
  reducesTo_S256x256_S_d0_1 := by decide

instance : Subsingleton S_.Idx := ⟨fun a b => funext fun i => i.elim0⟩

/-- An extended real whose absolute value is below `⊤` is real. -/
theorem real_of_abs {x : EReal} (h : max x (-x) < ⊤) : Real' x := by
  induction x with
  | bot => simp at h
  | top => simp at h
  | coe a => exact ⟨a, rfl⟩

/-- An array whose test for finite entries gives 1 has real entries. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : Real' (x i) := by
  have e1 : BitVec.ofBool (decide (max (x i) (-(x i)) < Ideal.ofBits .f32 0x7F800000#32)) = 1#1 := Host.reduce_andi_all _ _ h hu j e i
  rw [ofBits_top] at e1
  by_cases hx : max (x i) (-(x i)) < ⊤
  · exact real_of_abs hx
  · rw [decide_eq_false hx] at e1
    exact absurd e1 (by decide)

/-- Both bits of a conjunction that is 1 are 1. -/
theorem both {a b : BitVec 1} (h : IntOp.andi a b = 1#1) : a = 1#1 ∧ b = 1#1 := by
  revert h; revert a b; decide

section

variable [Facts]

/-- The precondition gives real entries of the six arrays that it tests. -/
theorem real_entries (z : FVec Ideal S8x2048x1408 .f32) (w : FVec Ideal S256x1408 .f32) (b : FVec Ideal S256 .f32) (wo : FVec Ideal S1408x256 .f32)
    (bo : FVec Ideal S1408 .f32) (e0 : FVec Ideal S64x256 .f32) (e1 : FVec Ideal S128x256 .f32) (e2 : FVec Ideal S256x256 .f32)
    (h : fn z w b wo bo e0 e1 e2 = fun _ => 1#1) :
    (∀ i, Real' (z i)) ∧ (∀ i, Real' (w i)) ∧ (∀ i, Real' (b i)) ∧ (∀ i, Real' (e0 i)) ∧ (∀ i, Real' (e1 i)) ∧ ∀ i, Real' (e2 i) := by
  have h := congrFun h (ix0 : S_.Idx)
  dsimp only [fn, fn_part1] at h
  obtain ⟨h, h2⟩ := both h
  obtain ⟨h, h1⟩ := both h
  obtain ⟨h, h0⟩ := both h
  obtain ⟨h, hb⟩ := both h
  obtain ⟨hz, hw⟩ := both h
  exact ⟨real_of_all z _ _ _ _ hz, real_of_all w _ _ _ _ hw, real_of_all b _ _ _ _ hb, real_of_all e0 _ _ _ _ h0, real_of_all e1 _ _ _ _ h1,
    real_of_all e2 _ _ _ _ h2⟩

end

end Cert.Pre_finite

end
-- ==== Proof.lean ====
/-
  The claim: the frames of the three programs, the statements of the rewriting rules used, and the equation of the
  idealized kernel's five results with the reference's where the tested arguments are finite.
-/
module

public import proofs.«01_k».proof.Defs
public import proofs.«01_k».proof.Proof.KFrame
public import proofs.«01_k».proof.Proof.Launch
public import proofs.«01_k».proof.Proof.Ref.Vals
public import proofs.«01_k».proof.Proof.VQ.Equation
public import proofs.«01_k».proof.Proof.VQ.Pre
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.VQ

attribute [local instance] Cert.Kernel.Gen.facts Cert.KernelIdeal.Gen.facts Cert.ReferenceIdeal.Gen.facts Cert.Pre_finite.facts

/-- The rewriting rules' statements at this kernel's shapes and constant. -/
theorem preserves : Cert.preserves_Kernel_KernelIdeal :=
  ⟨IdealRules.bf16_pack.statement _, IdealRules.bf16_pack.statement _, IdealRules.bf16_pack.statement _,
    IdealRules.named_const.statement Cert.KernelIdeal.κ "loss_scale" .f32 0x32AAAAAB#32 ((1 / 50331648 : ℝ) : EReal) rfl⟩

/-- Under the precondition the arguments that the equation needs real are real. -/
theorem args_real (m : (ℓ : Loc Cert.KernelIdeal.nD Cert.KernelIdeal.τ Cert.KernelIdeal.sig) → Buf (Elt Ideal) ℓ) (h : Cert.Pre_KernelIdeal_finite m)
    (c : Dev Cert.KernelIdeal.nD) : ArgsReal m c := by
  obtain ⟨hz, hw, hb, h0, h1, h2⟩ := Cert.Pre_finite.real_entries _ _ _ _ _ _ _ _ (h c)
  exact ⟨fun _ _ _ => hz _, fun _ _ => hw _, fun _ => hb _, fun _ _ => h0 _, fun _ _ => h1 _, fun _ _ => h2 _⟩

/-- The idealized kernel and the reference end with the same five results. -/
theorem algebraic : Cert.algebraic_KernelIdeal_ReferenceIdeal_pre_finite := by
  intro m g m' g' hpre hargs
  refine ⟨fun c => Cert.ReferenceIdeal.Host.out (inZ m c) (inW m c) (inB m c) (inWo m c) (inBo m c) (inE0 m c) (inE1 m c) (inE2 m c),
    fun c => Cert.ReferenceIdeal.Host.unflat (Cert.ReferenceIdeal.Host.i0 (inZ m c) (inW m c) (inB m c) (inE0 m c)),
    fun c => Cert.ReferenceIdeal.Host.unflat (Cert.ReferenceIdeal.Host.i1 (inZ m c) (inW m c) (inB m c) (inE0 m c) (inE1 m c)),
    fun c => Cert.ReferenceIdeal.Host.unflat (Cert.ReferenceIdeal.Host.i2 (inZ m c) (inW m c) (inB m c) (inE0 m c) (inE1 m c) (inE2 m c)),
    fun c => Cert.ReferenceIdeal.Host.loss (inZ m c) (inW m c) (inB m c) (inE0 m c) (inE1 m c) (inE2 m c), ?_, ?_⟩
  · refine (θ_run _ _ _).mono (fun r h c => ?_) (Cert.VQ.Arrays.run_results m g)
    have H := args_real m hpre c
    obtain ⟨⟨h4, h5, h6, h7, h8⟩, ha⟩ := h c
    exact ⟨h4.trans (out_eq H), h5.trans (idx0_eq H), h6.trans (idx1_eq H), h7.trans (idx2_eq H), h8.trans (loss_eq H), ha⟩
  · refine (θ_run _ _ _).mono (fun r h c => ?_) (Cert.ReferenceIdeal.Host.run m' g')
    obtain ⟨a0, a1, a2, a3, a4, a5, a6, a7⟩ := hargs c
    have e111 := (h c Cert.ReferenceIdeal.main_v111).trans (Cert.ReferenceIdeal.Host.v111_eq _)
    have e35 := (h c Cert.ReferenceIdeal.main_v35).trans (Cert.ReferenceIdeal.Host.v35_eq _)
    have e67 := (h c Cert.ReferenceIdeal.main_v67).trans (Cert.ReferenceIdeal.Host.v67_eq _)
    have e99 := (h c Cert.ReferenceIdeal.main_v99).trans (Cert.ReferenceIdeal.Host.v99_eq _)
    have e112 := (h c Cert.ReferenceIdeal.main_v112).trans (Cert.ReferenceIdeal.Host.v112_eq _)
    simp only [StableHlo.launchContents_devRef, a0, a1, a2, a3, a4, a5, a6, a7] at e111 e35 e67 e99 e112
    exact ⟨e111, e35, e67, e99, e112, (h c Cert.ReferenceIdeal.main_arg0).trans (Cert.ReferenceIdeal.Host.arg_eq _ _ (by decide)), (h c Cert.ReferenceIdeal.main_arg1).trans (Cert.ReferenceIdeal.Host.arg_eq _ _ (by decide)), (h c Cert.ReferenceIdeal.main_arg2).trans (Cert.ReferenceIdeal.Host.arg_eq _ _ (by decide)), (h c Cert.ReferenceIdeal.main_arg3).trans (Cert.ReferenceIdeal.Host.arg_eq _ _ (by decide)), (h c Cert.ReferenceIdeal.main_arg4).trans (Cert.ReferenceIdeal.Host.arg_eq _ _ (by decide)), (h c Cert.ReferenceIdeal.main_arg5).trans (Cert.ReferenceIdeal.Host.arg_eq _ _ (by decide)), (h c Cert.ReferenceIdeal.main_arg6).trans (Cert.ReferenceIdeal.Host.arg_eq _ _ (by decide)), (h c Cert.ReferenceIdeal.main_arg7).trans (Cert.ReferenceIdeal.Host.arg_eq _ _ (by decide))⟩

/-- The claim. -/
theorem claim : Cert.Claim :=
  ⟨Cert.Kernel.Gen.facts, Cert.KernelIdeal.Gen.facts, Cert.ReferenceIdeal.Gen.facts, Cert.Pre_finite.facts,
    fun m ρ _ => Cert.Kernel.Body.frame m ρ,
    fun m ρ _ => Cert.KernelIdeal.Body.frame m ρ,
    fun m ρ _ => Cert.KernelIdeal.Body.frame m ρ,
    fun m ρ _ => Cert.ReferenceIdeal.Host.frame m ρ,
    fun m ρ _ => Cert.ReferenceIdeal.Host.frame m ρ,
    preserves, algebraic⟩

end Cert.Proof

end
